-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S16384x768 : Shape := ⟨2, ![16384, 768]⟩
abbrev S768x64 : Shape := ⟨2, ![768, 64]⟩
abbrev S64 : Shape := ⟨1, ![64]⟩
abbrev S64x64 : Shape := ⟨2, ![64, 64]⟩
abbrev S64x768x32 : Shape := ⟨3, ![64, 768, 32]⟩
abbrev S64x32 : Shape := ⟨2, ![64, 32]⟩
abbrev S64x32x64 : Shape := ⟨3, ![64, 32, 64]⟩
abbrev S64x64x32 : Shape := ⟨3, ![64, 64, 32]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S16384x9 : Shape := ⟨2, ![16384, 9]⟩
abbrev S16384x8 : Shape := ⟨2, ![16384, 8]⟩

class Facts : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  sliceFits_S16384x64_S16384x9 : S16384x64.Slices (fun _ => 0) S16384x9
  bcast_S_S16384x768 : S_.BroadcastsInDim S16384x768 (![] : Fin 0 → Fin S16384x768.rank)
  bcast_S_S768x64 : S_.BroadcastsInDim S768x64 (![] : Fin 0 → Fin S768x64.rank)
  bcast_S_S64x768x32 : S_.BroadcastsInDim S64x768x32 (![] : Fin 0 → Fin S64x768x32.rank)
  bcast_S_S64x32x64 : S_.BroadcastsInDim S64x32x64 (![] : Fin 0 → Fin S64x32x64.rank)
  bcast_S_S64x64x32 : S_.BroadcastsInDim S64x64x32 (![] : Fin 0 → Fin S64x64x32.rank)
  bcast_S_S64 : S_.BroadcastsInDim S64 (![] : Fin 0 → Fin S64.rank)
  bcast_S_S64x32 : S_.BroadcastsInDim S64x32 (![] : Fin 0 → Fin S64x32.rank)
  bcast_S_S64x64 : S_.BroadcastsInDim S64x64 (![] : Fin 0 → Fin S64x64.rank)
  slices_S16384x9_S16384x8_0_0 : S16384x9.Slices ![0, 0] S16384x8
  slices_S16384x9_S16384x8_0_1 : S16384x9.Slices ![0, 1] S16384x8
  dot_S16384x768_S768x64_S16384x64_1_0_0_1_n_n_wf : DotDims.WF S16384x768 S768x64 S16384x64 [1] [0] [0] [1] [] []
  dot_S16384x64_S64x64_S16384x64_1_0_0_1_n_n_wf : DotDims.WF S16384x64 S64x64 S16384x64 [1] [0] [0] [1] [] []

variable [Facts]

def dot_S16384x768_S768x64_S16384x64_1_0_0_1_n_n : DotDims S16384x768 S768x64 S16384x64 where
  lhsContracting := [1]
  rhsContracting := [0]
  lhsNonContracting := [0]
  rhsNonContracting := [1]
  lhsBatch := []
  rhsBatch := []
  wf := dot_S16384x768_S768x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def fn_relu {F : FTy → Type} [FloatOps F] (arg0 : FVec F S16384x64 .f32) : FVec F S16384x64 .f32 :=
  let cst : FVec F S_ .f32 := constant S_ .f32 0x00000000#32
  let v0 : FVec F S16384x64 .f32 := broadcastInDim S16384x64 ![] bcast_S_S16384x64 cst
  let v1 : FVec F S16384x64 .f32 := maximumf arg0 v0
  v1

def fn_part2 {F : FTy → Type} [FloatOps F] (main_arg4 : FVec F S64 .f32) (main_arg6 : FVec F S64x32 .f32) (main_arg8 : FVec F S64x64 .f32) (main_arg10 : FVec F S64x32 .f32) (main_values : FVec F S16384x9 .f32) (main_v22 : IVec S16384x768 1) (main_v25 : IVec S768x64 1) (main_v28 : IVec S64x768x32 1) (main_v31 : IVec S64x32x64 1) (main_v34 : IVec S64x64x32 1) (main_v36 : IVec S64 1) : IVec S16384x768 1 × IVec S768x64 1 × IVec S64x768x32 1 × IVec S64x32x64 1 × IVec S64x64x32 1 × IVec S64 1 × IVec S64 1 × IVec S64x32 1 × IVec S64x64 1 × IVec S64x32 1 × IVec S16384x8 1 :=
  let main_cst_8 : FVec F S_ .f32 := constant S_ .f32 0x00000000#32
  let main_v37 : FVec F S64 .f32 := broadcastInDim S64 ![] bcast_S_S64 main_cst_8
  let main_v38 : IVec S64 1 := cmpf .oeq main_arg4 main_v37
  let main_cst_9 : FVec F S_ .f32 := constant S_ .f32 0x00000000#32
  let main_v39 : FVec F S64x32 .f32 := broadcastInDim S64x32 ![] bcast_S_S64x32 main_cst_9
  let main_v40 : IVec S64x32 1 := cmpf .oeq main_arg6 main_v39
  let main_cst_10 : FVec F S_ .f32 := constant S_ .f32 0x00000000#32
  let main_v41 : FVec F S64x64 .f32 := broadcastInDim S64x64 ![] bcast_S_S64x64 main_cst_10
  let main_v42 : IVec S64x64 1 := cmpf .oeq main_arg8 main_v41
  let main_cst_11 : FVec F S_ .f32 := constant S_ .f32 0x00000000#32
  let main_v43 : FVec F S64x32 .f32 := broadcastInDim S64x32 ![] bcast_S_S64x32 main_cst_11
  let main_v44 : IVec S64x32 1 := cmpf .oeq main_arg10 main_v43
  let main_v45 : FVec F S16384x8 .f32 := (extractStridedSlice S16384x8 ![0, 0] · slices_S16384x9_S16384x8_0_0) main_values
  let main_v46 : FVec F S16384x8 .f32 := (extractStridedSlice S16384x8 ![0, 1] · slices_S16384x9_S16384x8_0_1) main_values
  let main_v47 : IVec S16384x8 1 := cmpf .ogt main_v45 main_v46
  (main_v22, main_v25, main_v28, main_v31, main_v34, main_v36, main_v38, main_v40, main_v42, main_v44, main_v47)

def fn_part1 {F : FTy → Type} [FloatOps F] (main_arg0 : FVec F S16384x768 .f32) (main_arg1 : FVec F S768x64 .f32) (main_arg2 : FVec F S64 .f32) (main_arg4 : FVec F S64 .f32) (main_arg5 : FVec F S64x768x32 .f32) (main_arg6 : FVec F S64x32 .f32) (main_arg7 : FVec F S64x32x64 .f32) (main_arg8 : FVec F S64x64 .f32) (main_arg9 : FVec F S64x64x32 .f32) (main_arg10 : FVec F S64x32 .f32) (main_v19 : FVec F S16384x64 .f32) (main_values : FVec F S16384x9 .f32) : IVec S16384x768 1 × IVec S768x64 1 × IVec S64x768x32 1 × IVec S64x32x64 1 × IVec S64x64x32 1 × IVec S64 1 × IVec S64 1 × IVec S64x32 1 × IVec S64x64 1 × IVec S64x32 1 × IVec S16384x8 1 :=
  let main_indices : IVec S16384x9 32 := (fun x => (Host.topK S16384x9 1 (FloatOps.cmpfTotal .gt) x sliceFits_S16384x64_S16384x9).2) main_v19
  let main_v20 : FVec F S16384x768 .f32 := Host.absf main_arg0
  let main_cst_2 : FVec F S_ .f32 := constant S_ .f32 0x7F800000#32
  let main_v21 : FVec F S16384x768 .f32 := broadcastInDim S16384x768 ![] bcast_S_S16384x768 main_cst_2
  let main_v22 : IVec S16384x768 1 := cmpf .olt main_v20 main_v21
  let main_v23 : FVec F S768x64 .f32 := Host.absf main_arg1
  let main_cst_3 : FVec F S_ .f32 := constant S_ .f32 0x7F800000#32
  let main_v24 : FVec F S768x64 .f32 := broadcastInDim S768x64 ![] bcast_S_S768x64 main_cst_3
  let main_v25 : IVec S768x64 1 := cmpf .olt main_v23 main_v24
  let main_v26 : FVec F S64x768x32 .f32 := Host.absf main_arg5
  let main_cst_4 : FVec F S_ .f32 := constant S_ .f32 0x7F800000#32
  let main_v27 : FVec F S64x768x32 .f32 := broadcastInDim S64x768x32 ![] bcast_S_S64x768x32 main_cst_4
  let main_v28 : IVec S64x768x32 1 := cmpf .olt main_v26 main_v27
  let main_v29 : FVec F S64x32x64 .f32 := Host.absf main_arg7
  let main_cst_5 : FVec F S_ .f32 := constant S_ .f32 0x7F800000#32
  let main_v30 : FVec F S64x32x64 .f32 := broadcastInDim S64x32x64 ![] bcast_S_S64x32x64 main_cst_5
  let main_v31 : IVec S64x32x64 1 := cmpf .olt main_v29 main_v30
  let main_v32 : FVec F S64x64x32 .f32 := Host.absf main_arg9
  let main_cst_6 : FVec F S_ .f32 := constant S_ .f32 0x7F800000#32
  let main_v33 : FVec F S64x64x32 .f32 := broadcastInDim S64x64x32 ![] bcast_S_S64x64x32 main_cst_6
  let main_v34 : IVec S64x64x32 1 := cmpf .olt main_v32 main_v33
  let main_cst_7 : FVec F S_ .f32 := constant S_ .f32 0x00000000#32
  let main_v35 : FVec F S64 .f32 := broadcastInDim S64 ![] bcast_S_S64 main_cst_7
  let main_v36 : IVec S64 1 := cmpf .oeq main_arg2 main_v35
  fn_part2 (F := F) main_arg4 main_arg6 main_arg8 main_arg10 main_values main_v22 main_v25 main_v28 main_v31 main_v34 main_v36

def fn {F : FTy → Type} [FloatOps F] (main_arg0 : FVec F S16384x768 .f32) (main_arg1 : FVec F S768x64 .f32) (main_arg2 : FVec F S64 .f32) (main_arg3 : FVec F S64x64 .f32) (main_arg4 : FVec F S64 .f32) (main_arg5 : FVec F S64x768x32 .f32) (main_arg6 : FVec F S64x32 .f32) (main_arg7 : FVec F S64x32x64 .f32) (main_arg8 : FVec F S64x64 .f32) (main_arg9 : FVec F S64x64x32 .f32) (main_arg10 : FVec F S64x32 .f32) : IVec S16384x768 1 × IVec S768x64 1 × IVec S64x768x32 1 × IVec S64x32x64 1 × IVec S64x64x32 1 × IVec S64 1 × IVec S64 1 × IVec S64x32 1 × IVec S64x64 1 × IVec S64x32 1 × IVec S16384x8 1 :=
  let main_v0 : FVec F S16384x64 .f32 := (fun l r => Host.dotGeneral dot_S16384x768_S768x64_S16384x64_1_0_0_1_n_n none l r) main_arg0 main_arg1
  let main_v1 : FVec F S1x64 .f32 := broadcastInDim S1x64 ![1] bcast_S64_S1x64_1 main_arg2
  let main_v2 : FVec F S16384x64 .f32 := broadcastInDim S16384x64 ![0, 1] bcast_S1x64_S16384x64_0_1 main_v1
  let main_v3 : FVec F S16384x64 .f32 := addf main_v0 main_v2
  let main_v4 : FVec F S16384x64 .f32 := fn_relu (F := F) main_v3
  let main_v5 : FVec F S16384x64 .f32 := (fun l r => Host.dotGeneral dot_S16384x64_S64x64_S16384x64_1_0_0_1_n_n none l r) main_v4 main_arg3
  let main_v6 : FVec F S1x64 .f32 := broadcastInDim S1x64 ![1] bcast_S64_S1x64_1 main_arg4
  let main_v7 : FVec F S16384x64 .f32 := broadcastInDim S16384x64 ![0, 1] bcast_S1x64_S16384x64_0_1 main_v6
  let main_v8 : FVec F S16384x64 .f32 := addf main_v5 main_v7
  let main_cst : FVec F S_ .f32 := constant S_ .f32 0xFF800000#32
  let main_v9 : FVec F S16384 .f32 := (fun x v => Host.reduce FloatOps.maximumf x v reducesTo_S16384x64_S16384_d1 h_S_) main_v8 main_cst
  let main_cst_0 : FVec F S_ .f32 := constant S_ .f32 0xFF800000#32
  let main_v10 : FVec F S16384 .f32 := broadcastInDim S16384 ![] bcast_S_S16384 main_cst_0
  let main_v11 : FVec F S16384 .f32 := maximumf main_v10 main_v9
  let main_v12 : FVec F S16384x1 .f32 := broadcastInDim S16384x1 ![0] bcast_S16384_S16384x1_0 main_v11
  let main_v13 : FVec F S16384x64 .f32 := broadcastInDim S16384x64 ![0, 1] bcast_S16384x1_S16384x64_0_1 main_v12
  let main_v14 : FVec F S16384x64 .f32 := subf main_v8 main_v13
  let main_v15 : FVec F S16384x64 .f32 := Host.exp main_v14
  let main_cst_1 : FVec F S_ .f32 := constant S_ .f32 0x00000000#32
  let main_v16 : FVec F S16384 .f32 := (fun x v => Host.reduceAdd x v reducesTo_S16384x64_S16384_d1 h_S_) main_v15 main_cst_1
  let main_v17 : FVec F S16384x1 .f32 := broadcastInDim S16384x1 ![0] bcast_S16384_S16384x1_0 main_v16
  let main_v18 : FVec F S16384x64 .f32 := broadcastInDim S16384x64 ![0, 1] bcast_S16384x1_S16384x64_0_1 main_v17
  let main_v19 : FVec F S16384x64 .f32 := Host.divf main_v15 main_v18
  let main_values : FVec F S16384x9 .f32 := (fun x => (Host.topK S16384x9 1 (FloatOps.cmpfTotal .gt) x sliceFits_S16384x64_S16384x9).1) main_v19
  fn_part1 (F := F) main_arg0 main_arg1 main_arg2 main_arg4 main_arg5 main_arg6 main_arg7 main_arg8 main_arg9 main_arg10 main_v19 main_values
-- ==== Kernel.lean ====
abbrev S16384x768 : Shape := ⟨2, ![16384, 768]⟩
abbrev S768x64 : Shape := ⟨2, ![768, 64]⟩
abbrev S64 : Shape := ⟨1, ![64]⟩
abbrev S64x64 : Shape := ⟨2, ![64, 64]⟩
abbrev S64x768x32 : Shape := ⟨3, ![64, 768, 32]⟩
abbrev S64x32 : Shape := ⟨2, ![64, 32]⟩
abbrev S64x32x64 : Shape := ⟨3, ![64, 32, 64]⟩
abbrev S64x64x32 : Shape := ⟨3, ![64, 64, 32]⟩
abbrev S64x2048 : Shape := ⟨2, ![64, 2048]⟩
abbrev S2048x32 : Shape := ⟨2, ![2048, 32]⟩
abbrev S768x2048 : Shape := ⟨2, ![768, 2048]⟩
abbrev S32x768x32 : Shape := ⟨3, ![32, 768, 32]⟩
abbrev S32x32x64 : Shape := ⟨3, ![32, 32, 64]⟩
abbrev S32x64x32 : Shape := ⟨3, ![32, 64, 32]⟩
abbrev S768x1024 : Shape := ⟨2, ![768, 1024]⟩
abbrev S1x32x64 : Shape := ⟨3, ![1, 32, 64]⟩
abbrev S32x64 : Shape := ⟨2, ![32, 64]⟩
abbrev S1x64x32 : Shape := ⟨3, ![1, 64, 32]⟩
abbrev S32x32 : Shape := ⟨2, ![32, 32]⟩
abbrev S1x768x32 : Shape := ⟨3, ![1, 768, 32]⟩
abbrev S768x32 : Shape := ⟨2, ![768, 32]⟩
abbrev S16384x32 : Shape := ⟨2, ![16384, 32]⟩
abbrev S1024x768 : Shape := ⟨2, ![1024, 768]⟩
abbrev S1024x32 : Shape := ⟨2, ![1024, 32]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S1024x2048 : Shape := ⟨2, ![1024, 2048]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x768, .f32⟩
  | .hbm, ⟨1, _⟩ => ⟨S768x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x768x32, .f32⟩
  | .hbm, ⟨6, _⟩ => ⟨S64x32, .f32⟩
  | .hbm, ⟨7, _⟩ => ⟨S64x32x64, .f32⟩
  | .hbm, ⟨8, _⟩ => ⟨S64x64, .f32⟩
  | .hbm, ⟨9, _⟩ => ⟨S64x64x32, .f32⟩
  | .hbm, ⟨10, _⟩ => ⟨S64x32, .f32⟩
  | .hbm, ⟨11, _⟩ => ⟨S64x2048, .bf16⟩
  | .hbm, ⟨12, _⟩ => ⟨S2048x32, .bf16⟩
  | .hbm, ⟨13, _⟩ => ⟨S768x2048, .bf16⟩
  | .hbm, ⟨14, _⟩ => ⟨S16384x32, .f32⟩
  | .local _ .vmem, ⟨0, _⟩ => ⟨S32x768x32, .f32⟩
  | .local _ .vmem, ⟨1, _⟩ => ⟨S32x768x32, .f32⟩
  | .local _ .vmem, ⟨2, _⟩ => ⟨S32x32x64, .f32⟩
  | .local _ .vmem, ⟨3, _⟩ => ⟨S32x32x64, .f32⟩
  | .local _ .vmem, ⟨4, _⟩ => ⟨S32x64x32, .f32⟩
  | .local _ .vmem, ⟨5, _⟩ => ⟨S32x64x32, .f32⟩
  | .local _ .vmem, ⟨6, _⟩ => ⟨S768x1024, .bf16⟩
  | .local _ .vmem, ⟨7, _⟩ => ⟨S768x1024, .bf16⟩
  | .local _ .vmem, ⟨8, _⟩ => ⟨S1024x768, .f32⟩
  | .local _ .vmem, ⟨9, _⟩ => ⟨S1024x768, .f32⟩
  | .local _ .vmem, ⟨10, _⟩ => ⟨S768x64, .f32⟩
  | .local _ .vmem, ⟨11, _⟩ => ⟨S64x64, .f32⟩
  | .local _ .vmem, ⟨12, _⟩ => ⟨S768x2048, .bf16⟩
  | .local _ .vmem, ⟨13, _⟩ => ⟨S64x2048, .bf16⟩
  | .local _ .vmem, ⟨14, _⟩ => ⟨S2048x32, .bf16⟩
  | .local _ .vmem, ⟨15, _⟩ => ⟨S1024x32, .f32⟩
  | .local _ .vmem, ⟨16, _⟩ => ⟨S1024x32, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x768x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S16384x768 : Shape := ⟨2, ![16384, 768]⟩
abbrev S768x64 : Shape := ⟨2, ![768, 64]⟩
abbrev S64 : Shape := ⟨1, ![64]⟩
abbrev S64x64 : Shape := ⟨2, ![64, 64]⟩
abbrev S64x768x32 : Shape := ⟨3, ![64, 768, 32]⟩
abbrev S64x32 : Shape := ⟨2, ![64, 32]⟩
abbrev S64x32x64 : Shape := ⟨3, ![64, 32, 64]⟩
abbrev S64x64x32 : Shape := ⟨3, ![64, 64, 32]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x64x32 : Shape := ⟨3, ![16384, 64, 32]⟩
abbrev S1x64x32 : Shape := ⟨3, ![1, 64, 32]⟩
abbrev S64x64x16384 : Shape := ⟨3, ![64, 64, 16384]⟩
abbrev S16384x64x64 : Shape := ⟨3, ![16384, 64, 64]⟩
abbrev S1x64x64 : Shape := ⟨3, ![1, 64, 64]⟩
abbrev S64x32x16384 : Shape := ⟨3, ![64, 32, 16384]⟩
abbrev S16384x8x1 : Shape := ⟨3, ![16384, 8, 1]⟩
abbrev S1 : Shape := ⟨1, ![1]⟩
abbrev S1x1x1 : Shape := ⟨3, ![1, 1, 1]⟩
abbrev S16384x8x32 : Shape := ⟨3, ![16384, 8, 32]⟩
abbrev S16384x32 : Shape := ⟨2, ![16384, 32]⟩

abbrev nBuf : Space → Nat
  | .hbm => 94
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x768x32, .f32⟩
  | .hbm, ⟨6, _⟩ => ⟨S64x32, .f32⟩
  | .hbm, ⟨7, _⟩ => ⟨S64x32x64, .f32⟩
  | .hbm, ⟨8, _⟩ => ⟨S64x64, .f32⟩
  | .hbm, ⟨9, _⟩ => ⟨S64x64x32, .f32⟩
  | .hbm, ⟨10, _⟩ => ⟨S64x32, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x64, .f32⟩
  | .hbm, ⟨35, _⟩ => ⟨S16384x64, .f32⟩
  | .hbm, ⟨36, _⟩ => ⟨S16384x8, .f32⟩
  | .hbm, ⟨37, _⟩ => ⟨S16384x8, .i32⟩
  | .hbm, ⟨38, _⟩ => ⟨S16384x64x32, .f32⟩
  | .hbm, ⟨39, _⟩ => ⟨S1x64x32, .f32⟩
  | .hbm, ⟨40, _⟩ => ⟨S16384x64x32, .f32⟩
  | .hbm, ⟨41, _⟩ => ⟨S16384x64x32, .f32⟩
  | .hbm, ⟨42, _⟩ => ⟨S64x64x16384, .f32⟩
  | .hbm, ⟨43, _⟩ => ⟨S16384x64x64, .f32⟩
  | .hbm, ⟨44, _⟩ => ⟨S1x64x64, .f32⟩
  | .hbm, ⟨45, _⟩ => ⟨S16384x64x64, .f32⟩
  | .hbm, ⟨46, _⟩ => ⟨S16384x64x64, .f32⟩
  | .hbm, ⟨47, _⟩ => ⟨S64x32x16384, .f32⟩
  | .hbm, ⟨48, _⟩ => ⟨S16384x64x32, .f32⟩
  | .hbm, ⟨49, _⟩ => ⟨S1x64x32, .f32⟩
  | .hbm, ⟨50, _⟩ => ⟨S16384x64x32, .f32⟩
  | .hbm, ⟨51, _⟩ => ⟨S16384x64x32, .f32⟩
  | .hbm, ⟨52, _⟩ => ⟨S16384x8x1, .i32⟩
  | .hbm, ⟨53, _⟩ => ⟨S_, .i32⟩
  | .hbm, ⟨54, _⟩ => ⟨S16384x8x1, .i32⟩
  | .hbm, ⟨55, _⟩ => ⟨S16384x8x1, .i1⟩
  | .hbm, ⟨56, _⟩ => ⟨S_, .i32⟩
  | .hbm, ⟨57, _⟩ => ⟨S16384x8x1, .i32⟩
  | .hbm, ⟨58, _⟩ => ⟨S16384x8x1, .i32⟩
  | .hbm, ⟨59, _⟩ => ⟨S16384x8x1, .i32⟩
  | .hbm, ⟨60, _⟩ => ⟨S1, .i32⟩
  | .hbm, ⟨61, _⟩ => ⟨S_, .i32⟩
  | .hbm, ⟨62, _⟩ => ⟨S16384x8x1, .i32⟩
  | .hbm, ⟨63, _⟩ => ⟨S16384x8x1, .i1⟩
  | .hbm, ⟨64, _⟩ => ⟨S1x1x1, .i32⟩
  | .hbm, ⟨65, _⟩ => ⟨S16384x8x1, .i32⟩
  | .hbm, ⟨66, _⟩ => ⟨S16384x8x1, .i1⟩
  | .hbm, ⟨67, _⟩ => ⟨S16384x8x1, .i1⟩
  | .hbm, ⟨68, _⟩ => ⟨S_, .i1⟩
  | .hbm, ⟨69, _⟩ => ⟨S16384x8, .i1⟩
  | .hbm, ⟨70, _⟩ => ⟨S16384x8x32, .f32⟩
  | .hbm, ⟨71, _⟩ => ⟨S16384x8x32, .i1⟩
  | .hbm, ⟨72, _⟩ => ⟨S_, .f32⟩
  | .hbm, ⟨73, _⟩ => ⟨S16384x8x32, .f32⟩
  | .hbm, ⟨74, _⟩ => ⟨S16384x8x32, .f32⟩
  | .hbm, ⟨75, _⟩ => ⟨S16384x8x1, .f32⟩
  | .hbm, ⟨76, _⟩ => ⟨S16384x8x32, .f32⟩
  | .hbm, ⟨77, _⟩ => ⟨S16384x8x32, .f32⟩
  | .hbm, ⟨78, _⟩ => ⟨S_, .f32⟩
  | .hbm, ⟨79, _⟩ => ⟨S16384x32, .f32⟩
  | .hbm, ⟨80, _⟩ => ⟨S_, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x32, .f32⟩
  | .hbm, ⟨93, _⟩ => ⟨S16384x32, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_values : Ref sig .tc := ⟨.hbm, 36, rfl⟩
abbrev main_indices : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_c_2 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c_3 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_2 : Ref sig .tc := ⟨.hbm, 78, rfl⟩
abbrev main_v39 : Ref sig .tc := ⟨.hbm, 79, rfl⟩
abbrev main_cst_3 : Ref sig .tc := ⟨.hbm, 80, rfl⟩
abbrev main_v40 : Ref sig .tc := ⟨.hbm, 81, rfl⟩
abbrev main_cst_4 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_5 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩

abbrev nD : Nat := 1
abbrev τ : Topo := Topo.v7x

variable {F : FTy → Type} [FloatOps F]
-- ==== Proof.KernelRun.lean ====
module
public import proofs.«01_k».proof.Proof.Gen.KernelIdeal.Frame
@[expose] public section
set_option maxRecDepth 16384
noncomputable section
namespace Moe
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel's run

The launch's set-up is the frame's; besides the arguments the result array is read off the last boundary. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with its result array as the second pipeline leaves it, the arguments as launched. -/
theorem kernel_run : θ_run defs (onTc (τ := τ) (main (F := F))) ⟨m, fun _ => 0, ρ⟩ (fun r => ∀ c : Dev nD,
      r.2.mem ((c.tc : Thread nD τ).loc main_v1) = W3 m ρ c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Moe
end
end
-- ==== Proof.Tables.lean ====
module
public import proofs.«01_k».proof.Proof.Gen.KernelIdeal
public import Mathlib.Tactic.FinCases
public import Mathlib.Tactic.IntervalCases
@[expose] public section
set_option maxRecDepth 16384
noncomputable section
namespace Moe
open Idealize.ShloMosaic Cert.KernelIdeal

/-! # The two constant tables of the second kernel

The first table has one row per expert, and a one in row `a` at the 32 columns of expert `a`.
The second has one row per (expert, class) column, and a one at that class. Both are printed as
digit trees with leaves of 128 entries; only thirteen different leaves occur. -/

/-- The leaf of the first table in block `x` of its tree number `j`. -/
def rLeaf (j x : ℕ) (i : ℕ) : BitVec 16 :=
  if x % 16 = (8 * j + x / 16) / 4 then
    match x / 16 % 4 with
    | 0 => lit0t0_0 i
    | 1 => lit0t0_16 i
    | 2 => lit0t0_32 i
    | _ => lit0t0_48 i
  else lit0t0_1 i

/-- The leaf of the second table in block `x`. -/
def sLeaf (x : ℕ) (i : ℕ) : BitVec 16 :=
  match x % 8 with
  | 0 => lit1t0_0 i
  | 1 => lit1t0_1 i
  | 2 => lit1t0_2 i
  | 3 => lit1t0_3 i
  | 4 => lit1t0_4 i
  | 5 => lit1t0_5 i
  | 6 => lit1t0_6 i
  | _ => lit1t0_7 i

theorem lit0t0_0_low : ∀ r : Fin 128, lit0t0_0 r.val = if r.val / 32 = 0 then 0x3F80#16 else 0x0000#16 := by decide +kernel
theorem lit0t0_0_mod (i : ℕ) : lit0t0_0 i = lit0t0_0 (i % 128) := by unfold lit0t0_0; rw [Nat.mod_mod]
theorem lit0t0_0_eq (i : ℕ) : lit0t0_0 i = if i % 128 / 32 = 0 then 0x3F80#16 else 0x0000#16 := by
  rw [lit0t0_0_mod]; exact lit0t0_0_low ⟨i % 128, Nat.mod_lt _ (by decide)⟩

theorem lit0t0_16_low : ∀ r : Fin 128, lit0t0_16 r.val = if r.val / 32 = 1 then 0x3F80#16 else 0x0000#16 := by decide +kernel
theorem lit0t0_16_mod (i : ℕ) : lit0t0_16 i = lit0t0_16 (i % 128) := by unfold lit0t0_16; rw [Nat.mod_mod]
theorem lit0t0_16_eq (i : ℕ) : lit0t0_16 i = if i % 128 / 32 = 1 then 0x3F80#16 else 0x0000#16 := by
  rw [lit0t0_16_mod]; exact lit0t0_16_low ⟨i % 128, Nat.mod_lt _ (by decide)⟩

theorem lit0t0_32_low : ∀ r : Fin 128, lit0t0_32 r.val = if r.val / 32 = 2 then 0x3F80#16 else 0x0000#16 := by decide +kernel
theorem lit0t0_32_mod (i : ℕ) : lit0t0_32 i = lit0t0_32 (i % 128) := by unfold lit0t0_32; rw [Nat.mod_mod]
theorem lit0t0_32_eq (i : ℕ) : lit0t0_32 i = if i % 128 / 32 = 2 then 0x3F80#16 else 0x0000#16 := by
  rw [lit0t0_32_mod]; exact lit0t0_32_low ⟨i % 128, Nat.mod_lt _ (by decide)⟩

theorem lit0t0_48_low : ∀ r : Fin 128, lit0t0_48 r.val = if r.val / 32 = 3 then 0x3F80#16 else 0x0000#16 := by decide +kernel
theorem lit0t0_48_mod (i : ℕ) : lit0t0_48 i = lit0t0_48 (i % 128) := by unfold lit0t0_48; rw [Nat.mod_mod]
theorem lit0t0_48_eq (i : ℕ) : lit0t0_48 i = if i % 128 / 32 = 3 then 0x3F80#16 else 0x0000#16 := by
  rw [lit0t0_48_mod]; exact lit0t0_48_low ⟨i % 128, Nat.mod_lt _ (by decide)⟩

theorem lit0t0_1_low : ∀ r : Fin 128, lit0t0_1 r.val = 0x0000#16 := by decide +kernel
theorem lit0t0_1_mod (i : ℕ) : lit0t0_1 i = lit0t0_1 (i % 128) := by unfold lit0t0_1; rw [Nat.mod_mod]
theorem lit0t0_1_eq (i : ℕ) : lit0t0_1 i = 0x0000#16 := by
  rw [lit0t0_1_mod]; exact lit0t0_1_low ⟨i % 128, Nat.mod_lt _ (by decide)⟩

theorem lit1t0_0_low : ∀ r : Fin 128, lit1t0_0 r.val = if r.val % 32 = 4 * 0 + r.val / 32 then 0x3F80#16 else 0x0000#16 := by decide +kernel
theorem lit1t0_0_mod (i : ℕ) : lit1t0_0 i = lit1t0_0 (i % 128) := by unfold lit1t0_0; rw [Nat.mod_mod]
theorem lit1t0_0_eq (i : ℕ) : lit1t0_0 i = if i % 128 % 32 = 4 * 0 + i % 128 / 32 then 0x3F80#16 else 0x0000#16 := by
  rw [lit1t0_0_mod]; exact lit1t0_0_low ⟨i % 128, Nat.mod_lt _ (by decide)⟩

theorem lit1t0_1_low : ∀ r : Fin 128, lit1t0_1 r.val = if r.val % 32 = 4 * 1 + r.val / 32 then 0x3F80#16 else 0x0000#16 := by decide +kernel
theorem lit1t0_1_mod (i : ℕ) : lit1t0_1 i = lit1t0_1 (i % 128) := by unfold lit1t0_1; rw [Nat.mod_mod]
theorem lit1t0_1_eq (i : ℕ) : lit1t0_1 i = if i % 128 % 32 = 4 * 1 + i % 128 / 32 then 0x3F80#16 else 0x0000#16 := by
  rw [lit1t0_1_mod]; exact lit1t0_1_low ⟨i % 128, Nat.mod_lt _ (by decide)⟩

theorem lit1t0_2_low : ∀ r : Fin 128, lit1t0_2 r.val = if r.val % 32 = 4 * 2 + r.val / 32 then 0x3F80#16 else 0x0000#16 := by decide +kernel
theorem lit1t0_2_mod (i : ℕ) : lit1t0_2 i = lit1t0_2 (i % 128) := by unfold lit1t0_2; rw [Nat.mod_mod]
theorem lit1t0_2_eq (i : ℕ) : lit1t0_2 i = if i % 128 % 32 = 4 * 2 + i % 128 / 32 then 0x3F80#16 else 0x0000#16 := by
  rw [lit1t0_2_mod]; exact lit1t0_2_low ⟨i % 128, Nat.mod_lt _ (by decide)⟩

theorem lit1t0_3_low : ∀ r : Fin 128, lit1t0_3 r.val = if r.val % 32 = 4 * 3 + r.val / 32 then 0x3F80#16 else 0x0000#16 := by decide +kernel
theorem lit1t0_3_mod (i : ℕ) : lit1t0_3 i = lit1t0_3 (i % 128) := by unfold lit1t0_3; rw [Nat.mod_mod]
theorem lit1t0_3_eq (i : ℕ) : lit1t0_3 i = if i % 128 % 32 = 4 * 3 + i % 128 / 32 then 0x3F80#16 else 0x0000#16 := by
  rw [lit1t0_3_mod]; exact lit1t0_3_low ⟨i % 128, Nat.mod_lt _ (by decide)⟩

theorem lit1t0_4_low : ∀ r : Fin 128, lit1t0_4 r.val = if r.val % 32 = 4 * 4 + r.val / 32 then 0x3F80#16 else 0x0000#16 := by decide +kernel
theorem lit1t0_4_mod (i : ℕ) : lit1t0_4 i = lit1t0_4 (i % 128) := by unfold lit1t0_4; rw [Nat.mod_mod]
theorem lit1t0_4_eq (i : ℕ) : lit1t0_4 i = if i % 128 % 32 = 4 * 4 + i % 128 / 32 then 0x3F80#16 else 0x0000#16 := by
  rw [lit1t0_4_mod]; exact lit1t0_4_low ⟨i % 128, Nat.mod_lt _ (by decide)⟩

theorem lit1t0_5_low : ∀ r : Fin 128, lit1t0_5 r.val = if r.val % 32 = 4 * 5 + r.val / 32 then 0x3F80#16 else 0x0000#16 := by decide +kernel
theorem lit1t0_5_mod (i : ℕ) : lit1t0_5 i = lit1t0_5 (i % 128) := by unfold lit1t0_5; rw [Nat.mod_mod]
theorem lit1t0_5_eq (i : ℕ) : lit1t0_5 i = if i % 128 % 32 = 4 * 5 + i % 128 / 32 then 0x3F80#16 else 0x0000#16 := by
  rw [lit1t0_5_mod]; exact lit1t0_5_low ⟨i % 128, Nat.mod_lt _ (by decide)⟩

theorem lit1t0_6_low : ∀ r : Fin 128, lit1t0_6 r.val = if r.val % 32 = 4 * 6 + r.val / 32 then 0x3F80#16 else 0x0000#16 := by decide +kernel
theorem lit1t0_6_mod (i : ℕ) : lit1t0_6 i = lit1t0_6 (i % 128) := by unfold lit1t0_6; rw [Nat.mod_mod]
theorem lit1t0_6_eq (i : ℕ) : lit1t0_6 i = if i % 128 % 32 = 4 * 6 + i % 128 / 32 then 0x3F80#16 else 0x0000#16 := by
  rw [lit1t0_6_mod]; exact lit1t0_6_low ⟨i % 128, Nat.mod_lt _ (by decide)⟩

theorem lit1t0_7_low : ∀ r : Fin 128, lit1t0_7 r.val = if r.val % 32 = 4 * 7 + r.val / 32 then 0x3F80#16 else 0x0000#16 := by decide +kernel
theorem lit1t0_7_mod (i : ℕ) : lit1t0_7 i = lit1t0_7 (i % 128) := by unfold lit1t0_7; rw [Nat.mod_mod]
theorem lit1t0_7_eq (i : ℕ) : lit1t0_7 i = if i % 128 % 32 = 4 * 7 + i % 128 / 32 then 0x3F80#16 else 0x0000#16 := by
  rw [lit1t0_7_mod]; exact lit1t0_7_low ⟨i % 128, Nat.mod_lt _ (by decide)⟩

theorem lit0t1_0_eq (i : ℕ) : lit0t1_0 i = rLeaf 0 (i / 128 % 128) i := by
  have hx : i / 128 % 128 < 128 := Nat.mod_lt _ (by decide)
  unfold lit0t1_0
  generalize i / 128 % 128 = x at hx ⊢
  obtain ⟨y, rfl⟩ : ∃ y : Fin 128, x = y.val := ⟨⟨x, hx⟩, rfl⟩
  fin_cases y <;> rfl

theorem lit0t1_1_eq (i : ℕ) : lit0t1_1 i = rLeaf 1 (i / 128 % 128) i := by
  have hx : i / 128 % 128 < 128 := Nat.mod_lt _ (by decide)
  unfold lit0t1_1
  generalize i / 128 % 128 = x at hx ⊢
  obtain ⟨y, rfl⟩ : ∃ y : Fin 128, x = y.val := ⟨⟨x, hx⟩, rfl⟩
  fin_cases y <;> rfl

theorem lit0t1_2_eq (i : ℕ) : lit0t1_2 i = rLeaf 2 (i / 128 % 128) i := by
  have hx : i / 128 % 128 < 128 := Nat.mod_lt _ (by decide)
  unfold lit0t1_2
  generalize i / 128 % 128 = x at hx ⊢
  obtain ⟨y, rfl⟩ : ∃ y : Fin 128, x = y.val := ⟨⟨x, hx⟩, rfl⟩
  fin_cases y <;> rfl

theorem lit0t1_3_eq (i : ℕ) : lit0t1_3 i = rLeaf 3 (i / 128 % 128) i := by
  have hx : i / 128 % 128 < 128 := Nat.mod_lt _ (by decide)
  unfold lit0t1_3
  generalize i / 128 % 128 = x at hx ⊢
  obtain ⟨y, rfl⟩ : ∃ y : Fin 128, x = y.val := ⟨⟨x, hx⟩, rfl⟩
  fin_cases y <;> rfl

theorem lit0t1_4_eq (i : ℕ) : lit0t1_4 i = rLeaf 4 (i / 128 % 128) i := by
  have hx : i / 128 % 128 < 128 := Nat.mod_lt _ (by decide)
  unfold lit0t1_4
  generalize i / 128 % 128 = x at hx ⊢
  obtain ⟨y, rfl⟩ : ∃ y : Fin 128, x = y.val := ⟨⟨x, hx⟩, rfl⟩
  fin_cases y <;> rfl

theorem lit0t1_5_eq (i : ℕ) : lit0t1_5 i = rLeaf 5 (i / 128 % 128) i := by
  have hx : i / 128 % 128 < 128 := Nat.mod_lt _ (by decide)
  unfold lit0t1_5
  generalize i / 128 % 128 = x at hx ⊢
  obtain ⟨y, rfl⟩ : ∃ y : Fin 128, x = y.val := ⟨⟨x, hx⟩, rfl⟩
  fin_cases y <;> rfl

theorem lit0t1_6_eq (i : ℕ) : lit0t1_6 i = rLeaf 6 (i / 128 % 128) i := by
  have hx : i / 128 % 128 < 128 := Nat.mod_lt _ (by decide)
  unfold lit0t1_6
  generalize i / 128 % 128 = x at hx ⊢
  obtain ⟨y, rfl⟩ : ∃ y : Fin 128, x = y.val := ⟨⟨x, hx⟩, rfl⟩
  fin_cases y <;> rfl

theorem lit0t1_7_eq (i : ℕ) : lit0t1_7 i = rLeaf 7 (i / 128 % 128) i := by
  have hx : i / 128 % 128 < 128 := Nat.mod_lt _ (by decide)
  unfold lit0t1_7
  generalize i / 128 % 128 = x at hx ⊢
  obtain ⟨y, rfl⟩ : ∃ y : Fin 128, x = y.val := ⟨⟨x, hx⟩, rfl⟩
  fin_cases y <;> rfl

theorem lit1t1_0_eq (i : ℕ) : lit1t1_0 i = sLeaf (i / 128 % 128) i := by
  have hx : i / 128 % 128 < 128 := Nat.mod_lt _ (by decide)
  unfold lit1t1_0
  generalize i / 128 % 128 = x at hx ⊢
  obtain ⟨y, rfl⟩ : ∃ y : Fin 128, x = y.val := ⟨⟨x, hx⟩, rfl⟩
  fin_cases y <;> rfl

theorem lit1t1_1_eq (i : ℕ) : lit1t1_1 i = sLeaf (i / 128 % 128) i := by
  have hx : i / 128 % 128 < 128 := Nat.mod_lt _ (by decide)
  unfold lit1t1_1
  generalize i / 128 % 128 = x at hx ⊢
  obtain ⟨y, rfl⟩ : ∃ y : Fin 128, x = y.val := ⟨⟨x, hx⟩, rfl⟩
  fin_cases y <;> rfl

theorem lit1t1_2_eq (i : ℕ) : lit1t1_2 i = sLeaf (i / 128 % 128) i := by
  have hx : i / 128 % 128 < 128 := Nat.mod_lt _ (by decide)
  unfold lit1t1_2
  generalize i / 128 % 128 = x at hx ⊢
  obtain ⟨y, rfl⟩ : ∃ y : Fin 128, x = y.val := ⟨⟨x, hx⟩, rfl⟩
  fin_cases y <;> rfl

theorem lit1t1_3_eq (i : ℕ) : lit1t1_3 i = sLeaf (i / 128 % 128) i := by
  have hx : i / 128 % 128 < 128 := Nat.mod_lt _ (by decide)
  unfold lit1t1_3
  generalize i / 128 % 128 = x at hx ⊢
  obtain ⟨y, rfl⟩ : ∃ y : Fin 128, x = y.val := ⟨⟨x, hx⟩, rfl⟩
  fin_cases y <;> rfl

theorem rLeaf_eq (j x i : ℕ) : rLeaf j x i =
    if x % 16 = (8 * j + x / 16) / 4 ∧ i % 128 / 32 = x / 16 % 4 then 0x3F80#16 else 0x0000#16 := by
  have h4 : x / 16 % 4 < 4 := Nat.mod_lt _ (by decide)
  unfold rLeaf
  by_cases h : x % 16 = (8 * j + x / 16) / 4
  · rw [if_pos h]
    simp only [h, true_and]
    generalize x / 16 % 4 = y at h4 ⊢
    interval_cases y
    · exact lit0t0_0_eq i
    · exact lit0t0_16_eq i
    · exact lit0t0_32_eq i
    · exact lit0t0_48_eq i
  · rw [if_neg h, if_neg (fun h' => h h'.1)]
    exact lit0t0_1_eq i

theorem sLeaf_eq (x i : ℕ) : sLeaf x i =
    if i % 128 % 32 = 4 * (x % 8) + i % 128 / 32 then 0x3F80#16 else 0x0000#16 := by
  have h8 : x % 8 < 8 := Nat.mod_lt _ (by decide)
  unfold sLeaf
  generalize x % 8 = y at h8 ⊢
  interval_cases y
  · exact lit1t0_0_eq i
  · exact lit1t0_1_eq i
  · exact lit1t0_2_eq i
  · exact lit1t0_3_eq i
  · exact lit1t0_4_eq i
  · exact lit1t0_5_eq i
  · exact lit1t0_6_eq i
  · exact lit1t0_7_eq i

theorem lit0t_eq (i : ℕ) (hi : i < 131072) : lit0t i = rLeaf (i / 16384) (i / 128 % 128) i := by
  have hx : i / 16384 < 8 := by omega
  unfold lit0t
  generalize i / 16384 = x at hx ⊢
  interval_cases x
  · exact lit0t1_0_eq i
  · exact lit0t1_1_eq i
  · exact lit0t1_2_eq i
  · exact lit0t1_3_eq i
  · exact lit0t1_4_eq i
  · exact lit0t1_5_eq i
  · exact lit0t1_6_eq i
  · exact lit0t1_7_eq i

theorem lit1t_eq (i : ℕ) (hi : i < 65536) : lit1t i = sLeaf (i / 128 % 128) i := by
  have hx : i / 16384 < 4 := by omega
  unfold lit1t
  generalize i / 16384 = x at hx ⊢
  interval_cases x
  · exact lit1t1_0_eq i
  · exact lit1t1_1_eq i
  · exact lit1t1_2_eq i
  · exact lit1t1_3_eq i

/-- The first table: row `a`, column `32 b + k` is one exactly when `a = b`. -/
theorem lit0_eq (a b k : ℕ) (ha : a < 64) (hb : b < 64) (hk : k < 32) :
    lit0t (2048 * a + (32 * b + k)) = if b = a then 0x3F80#16 else 0x0000#16 := by
  have h1 : (2048 * a + (32 * b + k)) / 16384 = a / 8 := by omega
  have h2 : (2048 * a + (32 * b + k)) / 128 = 16 * a + b / 4 := by omega
  have h3 : (2048 * a + (32 * b + k)) % 128 / 32 = b % 4 := by omega
  have h4 : (16 * a + b / 4) % 128 = 16 * (a % 8) + b / 4 := by omega
  have h5 : (16 * (a % 8) + b / 4) / 16 = a % 8 := by omega
  have h6 : (16 * (a % 8) + b / 4) % 16 = b / 4 := by omega
  rw [lit0t_eq _ (by omega), rLeaf_eq, h1, h2, h3, h4, h5, h6]
  refine if_congr ?_ rfl rfl
  omega

/-- The second table: row `32 b + k`, column `c` is one exactly when `k = c`. -/
theorem lit1_eq (b k c : ℕ) (hb : b < 64) (hk : k < 32) (hc : c < 32) :
    lit1t (32 * (32 * b + k) + c) = if k = c then 0x3F80#16 else 0x0000#16 := by
  have h1 : (32 * (32 * b + k) + c) / 128 = 8 * b + k / 4 := by omega
  have h2 : (8 * b + k / 4) % 128 % 8 = k / 4 := by omega
  have h3 : (32 * (32 * b + k) + c) % 128 = 32 * (k % 4) + c := by omega
  have h4 : (32 * (k % 4) + c) % 32 = c := by omega
  have h5 : (32 * (k % 4) + c) / 32 = k % 4 := by omega
  rw [lit1t_eq _ (by omega), sLeaf_eq, h1, h2, h3, h4, h5]
  refine if_congr ?_ rfl rfl
  omega

end Moe
end
end
-- ==== Proof.Math.lean ====
module
public import Idealize.ShloMosaic.Lib.IdealHost
public import Idealize.ShloMosaic.Lib.SortFacts
@[expose] public section
noncomputable section
namespace Moe
open Idealize.ShloMosaic

/-! # The mathematics of one row

A row's gate weights are a softmax of its logits; the kernel picks the eight greatest by striking the
maximum eight times, the reference by sorting. Everything here is over the extended reals, with no
program in sight. -/

/-- An extended real that is a real number. -/
def Fin' (a : EReal) : Prop := ∃ r : ℝ, a = r

theorem Fin'.sub_self {a : EReal} (h : Fin' a) : a - a = 0 := by
  obtain ⟨r, rfl⟩ := h
  rw [← EReal.coe_sub, _root_.sub_self, EReal.coe_zero]

theorem Fin'.of_ne {a : EReal} (h1 : a ≠ ⊥) (h2 : a ≠ ⊤) : Fin' a := ⟨a.toReal, (EReal.coe_toReal h2 h1).symm⟩

theorem Fin'.ne_bot {a : EReal} (h : Fin' a) : a ≠ ⊥ := by obtain ⟨r, rfl⟩ := h; exact EReal.coe_ne_bot r

theorem Fin'.ne_top {a : EReal} (h : Fin' a) : a ≠ ⊤ := by obtain ⟨r, rfl⟩ := h; exact EReal.coe_ne_top r

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.mul {a b : EReal} (ha : Fin' a) (hb : Fin' b) : Fin' (a * b) := by
  obtain ⟨r, rfl⟩ := ha
  obtain ⟨s, rfl⟩ := hb
  exact ⟨r * s, (EReal.coe_mul r s).symm⟩

theorem Fin'.sum {ι : Type} (s : Finset ι) {f : ι → EReal} (h : ∀ i, Fin' (f i)) : Fin' (∑ i ∈ s, f i) := by
  choose g hg using h
  exact ⟨∑ i ∈ s, g i, by rw [coe_sum']; exact Finset.sum_congr rfl fun i _ => hg i⟩

theorem Fin'.max_zero {a : EReal} (ha : Fin' a) : Fin' (max a 0) := by
  rcases max_choice a 0 with h | h <;> rw [h]
  · exact ha
  · exact ⟨0, EReal.coe_zero.symm⟩

/-! ## Softmax -/

/-- The greatest of finitely many values, from minus infinity. -/
def fmax {n : ℕ} (l : Fin n → EReal) : EReal := Finset.univ.fold max ⊥ l

/-- The softmax of a row of logits, shifted by the row's greatest. -/
def soft {n : ℕ} (l : Fin n → EReal) (e : Fin n) : EReal :=
  Ideal.div (Ideal.exp (l e - fmax l)) (∑ k, Ideal.exp (l k - fmax l))

theorem le_fmax {n : ℕ} (l : Fin n → EReal) (e : Fin n) : l e ≤ fmax l :=
  (Finset.le_fold_max _).mpr (.inr ⟨e, Finset.mem_univ e, le_refl _⟩)

theorem fmax_le {n : ℕ} (l : Fin n → EReal) (c : EReal) (h : ∀ e, l e ≤ c) : fmax l ≤ c :=
  (Finset.fold_max_le _).mpr ⟨bot_le, fun e _ => h e⟩

theorem fmax_lt_top {n : ℕ} (l : Fin n → EReal) (h : ∀ e, Fin' (l e)) : fmax l < ⊤ :=
  (Finset.fold_max_lt _).mpr ⟨bot_lt_top, fun e _ => lt_top_iff_ne_top.mpr (h e).ne_top⟩

theorem exp_nonneg (a : EReal) : 0 ≤ Ideal.exp a := by
  induction a with
  | bot => exact le_refl _
  | coe r => exact EReal.coe_nonneg.mpr (Real.exp_pos r).le
  | top => exact le_top

theorem exp_pos {a : EReal} (h : a ≠ ⊥) : 0 < Ideal.exp a := by
  induction a with
  | bot => exact absurd rfl h
  | coe r => exact EReal.coe_pos.mpr (Real.exp_pos r)
  | top => exact EReal.zero_lt_top

/-- A softmax weight above another is above minus infinity, and so are all weights of its row. -/
theorem soft_ne_bot {n : ℕ} (l : Fin n → EReal) (i j : Fin n) (h : soft l i < soft l j) (e : Fin n) : soft l e ≠ ⊥ := by
  have hs : 0 ≤ ∑ k, Ideal.exp (l k - fmax l) := Finset.sum_nonneg fun k _ => exp_nonneg _
  have hne : (∑ k, Ideal.exp (l k - fmax l)) ≠ 0 := by
    intro h0
    have hz (k : Fin n) : Ideal.exp (l k - fmax l) = 0 :=
      (Finset.sum_eq_zero_iff_of_nonneg fun k _ => exp_nonneg _).mp h0 k (Finset.mem_univ k)
    unfold soft at h
    rw [hz i, hz j] at h
    exact lt_irrefl _ h
  unfold soft Ideal.div
  rw [if_neg hne]
  have : 0 ≤ Ideal.exp (l e - fmax l) * (∑ k, Ideal.exp (l k - fmax l))⁻¹ :=
    mul_nonneg (exp_nonneg _) (EReal.inv_nonneg_of_nonneg hs)
  exact fun hb => absurd (hb ▸ this) (by simp)

/-! ## Striking the maximum -/

/-- One round of the kernel's selection: every entry equal to the greatest becomes minus infinity. -/
def strike {n : ℕ} (v : Fin n → EReal) (e : Fin n) : EReal := if v e = fmax v then ⊥ else v e

/-- The weights the kernel keeps: those struck in eight rounds, zero elsewhere. -/
def kept {n : ℕ} (w : Fin n → EReal) (e : Fin n) : EReal := if (strike^[8] w) e = ⊥ then w e else 0

/-- After `t` rounds the first `t` entries of the sorted row are struck and no other. -/
theorem strike_iterate (w : Fin 64 → EReal) (σ : Fin 64 → Fin 64) (hσ : Function.Bijective σ)
    (hmono : ∀ i j : Fin 64, i < j → w (σ j) ≤ w (σ i))
    (hstrict : ∀ (k : ℕ) (hk : k < 8), w (σ ⟨k + 1, by omega⟩) < w (σ ⟨k, by omega⟩))
    (t : ℕ) (ht : t ≤ 8) (j : Fin 64) : (strike^[t] w) (σ j) = if j.val < t then ⊥ else w (σ j) := by
  induction t generalizing j with
  | zero => simp
  | succ t ih =>
    have ih := ih (by omega)
    rw [Function.iterate_succ_apply']
    generalize strike^[t] w = v at ih
    have hmax : fmax v = w (σ ⟨t, by omega⟩) := by
      apply le_antisymm
      · refine fmax_le _ _ fun e => ?_
        obtain ⟨i, rfl⟩ := hσ.2 e
        rw [ih]
        split
        · exact bot_le
        · next hi =>
          rcases (Nat.lt_or_eq_of_le (Nat.le_of_not_lt hi)) with h | h
          · exact hmono _ _ h
          · exact le_of_eq (by congr 2; exact Fin.ext h.symm)
      · have := le_fmax v (σ ⟨t, by omega⟩)
        rwa [ih, if_neg (by simp)] at this
    unfold strike
    rw [hmax, ih]
    by_cases h1 : j.val < t
    · simp [h1, show j.val < t + 1 by omega]
    · rw [if_neg h1]
      by_cases h2 : j.val = t
      · have : j = ⟨t, by omega⟩ := Fin.ext h2
        rw [this]; simp
      · rw [if_neg (show ¬ j.val < t + 1 by omega), if_neg]
        refine ne_of_lt (lt_of_le_of_lt ?_ (hstrict t (by omega)))
        rcases Nat.lt_or_eq_of_le (show t + 1 ≤ j.val by omega) with h | h
        · exact hmono ⟨t + 1, by omega⟩ j h
        · exact le_of_eq (by congr 2; exact Fin.ext h.symm)

/-- A sum against the kept weights is the sum over the first eight of the sorted row. -/
theorem sum_kept (w : Fin 64 → EReal) (σ : Fin 64 → Fin 64) (hσ : Function.Bijective σ)
    (hmono : ∀ i j : Fin 64, i < j → w (σ j) ≤ w (σ i))
    (hstrict : ∀ (k : ℕ) (hk : k < 8), w (σ ⟨k + 1, by omega⟩) < w (σ ⟨k, by omega⟩))
    (hbot : ∀ e, w e ≠ ⊥) (f : Fin 64 → EReal) :
    ∑ e, f e * kept w e = ∑ k : Fin 8, f (σ ⟨k.val, by omega⟩) * w (σ ⟨k.val, by omega⟩) := by
  have h (j : Fin 64) : f (σ j) * kept w (σ j) = if j.val < 8 then f (σ j) * w (σ j) else 0 := by
    unfold kept
    rw [strike_iterate w σ hσ hmono hstrict 8 (le_refl _) j]
    by_cases hj : j.val < 8
    · simp [hj]
    · simp [hj, hbot]
  rw [← hσ.sum_comp (fun e => f e * kept w e)]
  simp only [h]
  rw [show (∑ j : Fin 64, if j.val < 8 then f (σ j) * w (σ j) else 0)
      = ∑ j : Fin (8 + 56), if j.val < 8 then f (σ j) * w (σ j) else 0 from rfl, Fin.sum_univ_add]
  simp
  rfl

/-! ## One expert, collapsed -/

/-- The product of the three weight matrices may be formed first: for real numbers the expert's
    value at a class is the row times the collapsed matrix. -/
theorem expert_eq (x : Fin 768 → EReal) (w1 : Fin 768 → Fin 32 → EReal) (w2 : Fin 32 → Fin 64 → EReal)
    (w3 : Fin 64 → EReal) (hx : ∀ d, Fin' (x d)) (h1 : ∀ d h, Fin' (w1 d h)) (h2 : ∀ h f, Fin' (w2 h f))
    (h3 : ∀ f, Fin' (w3 f)) :
    ∑ d, x d * ∑ h, w1 d h * ∑ f, w2 h f * w3 f
      = ∑ f, w3 f * ∑ h, w2 h f * ∑ d, x d * w1 d h := by
  choose x' hx using hx
  choose w1' h1 using h1
  choose w2' h2 using h2
  choose w3' h3 using h3
  simp only [hx, h1, h2, h3, ← EReal.coe_mul, ← coe_sum']
  congr 1
  simp only [Finset.mul_sum]
  rw [Finset.sum_comm]
  conv_lhs => arg 2; ext h; rw [Finset.sum_comm]
  rw [Finset.sum_comm]
  refine Finset.sum_congr rfl fun f _ => Finset.sum_congr rfl fun h _ => Finset.sum_congr rfl fun d _ => ?_
  ring

/-! ## The split of the columns -/

/-- A sum over the 2048 columns is a sum over experts and classes. -/
theorem sum_columns (f : Fin 2048 → EReal) :
    ∑ j, f j = ∑ e : Fin 64, ∑ c : Fin 32, f ⟨32 * e.val + c.val, by omega⟩ := by
  have := (finProdFinEquiv (m := 64) (n := 32)).sum_comp (fun j => f ⟨j.val, j.isLt⟩)
  rw [Fintype.sum_prod_type] at this
  rw [show (∑ j, f j) = ∑ j : Fin (64 * 32), f ⟨j.val, j.isLt⟩ from rfl, ← this]
  refine Finset.sum_congr rfl fun e _ => Finset.sum_congr rfl fun c _ => congrArg f (Fin.ext ?_)
  simp [finProdFinEquiv, Nat.add_comm]

/-- The kernel's combination: the gate weights spread over the columns by one indicator table, the
    columns of one class gathered by the other. -/
theorem combine (P : Fin 2048 → EReal) (w : Fin 64 → EReal) (R : Fin 64 → Fin 2048 → EReal)
    (S : Fin 2048 → Fin 32 → EReal)
    (hR : ∀ (a b : Fin 64) (k : Fin 32), R a ⟨32 * b.val + k.val, by omega⟩ = if b = a then 1 else 0)
    (hS : ∀ (b : Fin 64) (k c : Fin 32), S ⟨32 * b.val + k.val, by omega⟩ c = if k = c then 1 else 0) (c : Fin 32) :
    ∑ j, P j * (∑ e, w e * R e j) * S j c = ∑ e : Fin 64, P ⟨32 * e.val + c.val, by omega⟩ * w e := by
  rw [sum_columns]
  refine Finset.sum_congr rfl fun e _ => ?_
  simp only [hR, hS, mul_ite, mul_one, mul_zero, Finset.sum_ite_eq, Finset.sum_ite_eq', Finset.mem_univ, if_true]

end Moe
end
end
-- ==== Proof.Collapse.lean ====
module
public import proofs.«01_k».proof.Proof.Gen.KernelIdeal.Frame
public import proofs.«01_k».proof.Proof.Math
public import Idealize.ShloMosaic.Lib.Pointwise
public import Idealize.ShloMosaic.Lib.Pipeline.ValueKit
@[expose] public section
set_option maxRecDepth 16384
noncomputable section
namespace Moe
open Idealize.ShloMosaic Idealize.ShloMosaic.TcCoe Idealize.SL.Sem Cert.KernelIdeal Cert.KernelIdeal.Gen

/-! # One block of the first kernel

Thirty-two experts' weights are multiplied out and laid side by side. -/

/-- Thirty-two pieces of 32 columns, laid side by side, read at a column. -/
theorem pay92_at (v : Fin 32 → FVec Ideal S768x32 .f32) (d : Fin 768) (j : Fin 1024) :
    k0_pay92 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) (ix2 d j) = v ⟨j.val / 32, by omega⟩ (ix2 d ⟨j.val % 32, by omega⟩) := by
  refine concatenate_ofFn_apply (t := S768x1024) (s₁ := S768x32) 1 v
    concatenates_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x32_S768x1024_d1 rfl 32 rfl (ix2 d j)
    ⟨j.val / 32, by omega⟩ rfl (ix2 d ⟨j.val % 32, by omega⟩) rfl ?_
  intro b hb
  fin_cases b
  · rfl
  · exact absurd rfl hb

/-- One expert's product over the block's weights. -/
def piece (x0 : Vec Ideal S32x768x32 .f32) (x1 : Vec Ideal S32x32x64 .f32) (x2 : Vec Ideal S32x64x32 .f32) (e : Fin 32) :
    FVec Ideal S768x32 .f32 :=
  k0_pay2 (View.ld x1 (Rect.unit (s := S32x32x64) ![e.val, 0, 0] S1x32x64.size (by revert e; decide)))
    (View.ld x2 (Rect.unit (s := S32x64x32) ![e.val, 0, 0] S1x64x32.size (by revert e; decide)))
    (View.ld x0 (Rect.unit (s := S32x768x32) ![e.val, 0, 0] S1x768x32.size (by revert e; decide)))

/-- The block, every expert's piece the same arithmetic over its own slices. -/
theorem out0_eq (x0 : Vec Ideal S32x768x32 .f32) (x1 : Vec Ideal S32x32x64 .f32) (x2 : Vec Ideal S32x64x32 .f32) :
    out0_3 x0 x1 x2 = View.canon [⟨r0_96, k0_pay1 (k0_pay92
      (piece x0 x1 x2 0)
      (piece x0 x1 x2 1)
      (piece x0 x1 x2 2)
      (piece x0 x1 x2 3)
      (piece x0 x1 x2 4)
      (piece x0 x1 x2 5)
      (piece x0 x1 x2 6)
      (piece x0 x1 x2 7)
      (piece x0 x1 x2 8)
      (piece x0 x1 x2 9)
      (piece x0 x1 x2 10)
      (piece x0 x1 x2 11)
      (piece x0 x1 x2 12)
      (piece x0 x1 x2 13)
      (piece x0 x1 x2 14)
      (piece x0 x1 x2 15)
      (piece x0 x1 x2 16)
      (piece x0 x1 x2 17)
      (piece x0 x1 x2 18)
      (piece x0 x1 x2 19)
      (piece x0 x1 x2 20)
      (piece x0 x1 x2 21)
      (piece x0 x1 x2 22)
      (piece x0 x1 x2 23)
      (piece x0 x1 x2 24)
      (piece x0 x1 x2 25)
      (piece x0 x1 x2 26)
      (piece x0 x1 x2 27)
      (piece x0 x1 x2 28)
      (piece x0 x1 x2 29)
      (piece x0 x1 x2 30)
      (piece x0 x1 x2 31))⟩] := rfl

theorem pay2_at (a : Vec Ideal S1x32x64 .f32) (b : Vec Ideal S1x64x32 .f32) (x : Vec Ideal S1x768x32 .f32)
    (ha : ∀ i, Fin' (a i)) (hb : ∀ i, Fin' (b i)) (d : Fin 768) (c : Fin 32) :
    k0_pay2 a b x (ix2 d c) = ∑ h, x (ix3 0 d h) * ∑ f, a (ix3 0 h f) * b (ix3 0 f c) := by
  pointwise [k0_pay2]
  refine Finset.sum_congr rfl fun h _ => ?_
  congr 1
  simp only [Fin'.sub_self (ha _), Fin'.sub_self (hb _), mul_zero, zero_mul, Finset.sum_const_zero, add_zero]

theorem piece_at (x0 : Vec Ideal S32x768x32 .f32) (x1 : Vec Ideal S32x32x64 .f32) (x2 : Vec Ideal S32x64x32 .f32)
    (h1 : ∀ i, Fin' (x1 i)) (h2 : ∀ i, Fin' (x2 i)) (e : Fin 32) (d : Fin 768) (c : Fin 32) :
    piece x0 x1 x2 e (ix2 d c) = ∑ h, x0 (ix3 e d h) * ∑ f, x1 (ix3 e h f) * x2 (ix3 e f c) := by
  unfold piece
  refine (pay2_at _ _ _ (fun i => h1 _) (fun i => h2 _) d c).trans ?_
  refine Finset.sum_congr rfl fun h _ => congrArg₂ (· * ·) (View.ld_unit_apply_of _ _ _ _ _ _ ?_)
    (Finset.sum_congr rfl fun f _ => congrArg₂ (· * ·) (View.ld_unit_apply_of _ _ _ _ _ _ ?_) (View.ld_unit_apply_of _ _ _ _ _ _ ?_))
  all_goals (intro a; fin_cases a <;> simp)

theorem expert_lt (j : S768x2048.Idx) : (j 1).val / 32 < 64 := by
  have l : (j 1).val < 2048 := (j 1).isLt
  omega

/-- The experts' products over the whole arrays: column `32 e + k` belongs to expert `e`. -/
def wcat (w1 : FVec Ideal S64x768x32 .f32) (w2 : FVec Ideal S64x32x64 .f32) (w3 : FVec Ideal S64x64x32 .f32) :
    FVec Ideal S768x2048 .bf16 := fun j =>
  ∑ h, w1 (ix3 ⟨(j 1).val / 32, expert_lt j⟩ (j 0) h) *
    ∑ f, w2 (ix3 ⟨(j 1).val / 32, expert_lt j⟩ h f) *
      w3 (ix3 ⟨(j 1).val / 32, expert_lt j⟩ f ⟨(j 1).val % 32, Nat.mod_lt _ (by decide)⟩)

/-- The block read at an index. -/
theorem block0_at (x0 : Vec Ideal S32x768x32 .f32) (x1 : Vec Ideal S32x32x64 .f32) (x2 : Vec Ideal S32x64x32 .f32)
    (h1 : ∀ i, Fin' (x1 i)) (h2 : ∀ i, Fin' (x2 i)) (d : Fin 768) (j : Fin 1024) :
    out0_3 x0 x1 x2 (ix2 d j) = ∑ h, x0 (ix3 ⟨j.val / 32, by omega⟩ d h) *
      ∑ f, x1 (ix3 ⟨j.val / 32, by omega⟩ h f) * x2 (ix3 ⟨j.val / 32, by omega⟩ f ⟨j.val % 32, by omega⟩) := by
  rw [out0_eq, View.canon_cons_unit_lit _ _ _ (by decide)]
  exact (pay92_at (piece x0 x1 x2) d j).trans (piece_at x0 x1 x2 h1 h2 _ d _)

theorem idx0 : ∀ t : Fin cfg0.N, win0_0.index t = ![t.val, 0, 0] ∧ win0_1.index t = ![t.val, 0, 0] ∧
    win0_2.index t = ![t.val, 0, 0] ∧ win0_3.index t = ![0, t.val] :=
  (by decide +kernel : ∀ t : Fin grid0.N, _)

variable (V : (c : Dev nD) → (b : Ref sig .tc) → Buf (Elt Ideal) ((c : Thread nD τ).loc b))

/-- The array the first kernel leaves. -/
theorem wcat_array (c : Dev nD) (h1 : ∀ i, Fin' ((V c main_arg7 : FVec Ideal S64x32x64 .f32) i))
    (h2 : ∀ i, Fin' ((V c main_arg9 : FVec Ideal S64x64x32 .f32) i)) :
    (dat0 V c).arrAt 3 cfg0.N = wcat (V c main_arg5) (V c main_arg7) (V c main_arg9) := by
  refine (dat0 V c).arrAt_eq_of_covers 3 _ (by decide +kernel) fun t hf y => ?_
  blk_simp
  rw [after0_3]
  have f1 : ∀ i, Fin' ((iblk0 V c 1 t : FVec Ideal S32x32x64 .f32) i) := fun i => by
    blk_simp [iblk0]; exact h1 _
  have f2 : ∀ i, Fin' ((iblk0 V c 2 t : FVec Ideal S32x64x32 .f32) i) := fun i => by
    blk_simp [iblk0]; exact h2 _
  obtain ⟨d, j, rfl⟩ : ∃ (d : Fin 768) (j : Fin 1024), y = ix2 d j := ⟨y 0, y 1, by funext a; fin_cases a <;> rfl⟩
  refine (block0_at _ _ _ f1 f2 d j).trans ?_
  unfold wcat
  refine Finset.sum_congr rfl fun h _ => congrArg₂ (· * ·) ?_
    (Finset.sum_congr rfl fun f _ => congrArg₂ (· * ·) ?_ ?_)
  · blk_ext [iblk0, idx0 t]
  · blk_ext [iblk0, idx0 t]
  · blk_ext [iblk0, idx0 t]
end Moe
end
end
-- ==== Proof.Gate.lean ====
module
public import proofs.«01_k».proof.Proof.Gen.KernelIdeal.Skeleton
public import proofs.«01_k».proof.Proof.Math
public import Idealize.ShloMosaic.Lib.Pointwise
@[expose] public section
set_option maxRecDepth 16384
noncomputable section
namespace Moe
open Idealize.ShloMosaic Cert.KernelIdeal Cert.KernelIdeal.Gen

/-! # One block of the second kernel

The values the second kernel computes from a block of 1024 rows, read at an index. -/

theorem ofBits_neg_inf : Ideal.ofBits .f32 4286578688#32 = ⊥ := by
  simp [Ideal.ofBits, Ideal.ieee]

/-- The gate's logits of one row. -/
def logits (x : Fin 768 → EReal) (g1 : Fin 768 → Fin 64 → EReal) (g2 : Fin 64 → Fin 64 → EReal) (e : Fin 64) : EReal :=
  ∑ h, g2 h e * max (∑ d, x d * g1 d h) 0

/-- The gate weights, experts by rows: the two correction products of the split factors vanish on
    real entries. -/
theorem pay3_at (x : Vec Ideal S1024x768 .f32) (w1 : Vec Ideal S768x64 .f32) (w2 : Vec Ideal S64x64 .f32)
    (hx : ∀ r d, Fin' (x (ix2 r d))) (h1 : ∀ d h, Fin' (w1 (ix2 d h))) (e : Fin 64) (r : Fin 1024) :
    k1_pay3 x w1 w2 (ix2 e r)
      = soft (logits (fun d => x (ix2 r d)) (fun d h => w1 (ix2 d h)) (fun h e => w2 (ix2 h e))) e := by
  have hx' (r : Fin 1024) (d : Fin 768) : (x (ix2 r d) : EReal) - x (ix2 r d) = 0 := (hx r d).sub_self
  have h1' (d : Fin 768) (h : Fin 64) : (w1 (ix2 d h) : EReal) - w1 (ix2 d h) = 0 := (h1 d h).sub_self
  pointwise [k1_pay3, k1_pay2]
  simp only [hx', h1', mul_zero, zero_mul, Finset.sum_const_zero, add_zero, ofBits_neg_inf]
  rfl

/-- One round of the selection on a block of weights. -/
def rnd (v : FVec Ideal S64x1024 .f32) : FVec Ideal S64x1024 .f32 :=
  select (cmpf .oeq v (broadcastTo S64x1024 (shapeCast S1x1024 (multiReduction .maximumf [0] S1024 v 0xFF800000#32
    reduces_S64x1024_S1024 (.inl rfl) rfl) shapeCasts_S1024_S1x1024) broadcasts_S1x1024_S64x1024))
    (broadcast S64x1024 (Scalar.ofBits .f32 0xFF800000#32)) v

theorem rnd_at (v : FVec Ideal S64x1024 .f32) (e : Fin 64) (r : Fin 1024) :
    rnd v (ix2 e r) = strike (fun k => v (ix2 k r)) e := by
  pointwise [rnd]
  simp only [ofBits_neg_inf]
  rfl

theorem rnd_iterate_at (t : ℕ) (v : FVec Ideal S64x1024 .f32) (e : Fin 64) (r : Fin 1024) :
    rnd^[t] v (ix2 e r) = strike^[t] (fun k => v (ix2 k r)) e := by
  induction t generalizing e with
  | zero => rfl
  | succ t ih =>
    rw [Function.iterate_succ_apply', Function.iterate_succ_apply', rnd_at]
    exact congrArg (fun f => strike f e) (funext fun k => ih k)

theorem pay4_eq (x : Vec Ideal S1024x768 .f32) (w1 : Vec Ideal S768x64 .f32) (w2 : Vec Ideal S64x64 .f32) :
    k1_pay4 x w1 w2 = rnd (rnd (k1_pay3 x w1 w2)) := rfl

/-- The last step of the selection: a struck weight is kept, any other becomes zero. -/
def keep (v u : FVec Ideal S64x1024 .f32) : FVec Ideal S64x1024 .bf16 :=
  truncf .bf16 (select (cmpf .oeq u (broadcast S64x1024 (Scalar.ofBits .f32 0xFF800000#32))) v
    (broadcast S64x1024 (Scalar.ofBits .f32 0x00000000#32))) bitsLt_bf16_f32

theorem keep_at (v u : FVec Ideal S64x1024 .f32) (e : Fin 64) (r : Fin 1024) :
    keep v u (ix2 e r) = if (u (ix2 e r) : EReal) = ⊥ then (v (ix2 e r) : EReal) else 0 := by
  pointwise [keep]
  simp only [ofBits_neg_inf]

theorem pay6_eq (v u : FVec Ideal S64x1024 .f32) : k1_pay6 v u = keep v (rnd (rnd (rnd (rnd (rnd (rnd u)))))) := rfl

/-- The kept weights of a block. -/
theorem pay6_at (x : Vec Ideal S1024x768 .f32) (w1 : Vec Ideal S768x64 .f32) (w2 : Vec Ideal S64x64 .f32)
    (e : Fin 64) (r : Fin 1024) :
    k1_pay6 (k1_pay3 x w1 w2) (k1_pay4 x w1 w2) (ix2 e r) = kept (fun k => k1_pay3 x w1 w2 (ix2 k r)) e := by
  rw [pay4_eq, pay6_eq, keep_at]
  have := rnd_iterate_at 8 (k1_pay3 x w1 w2) e r
  simp only [Function.iterate_succ, Function.iterate_zero, Function.comp_apply, id_eq] at this
  unfold kept
  simp only [Function.iterate_succ, Function.iterate_zero, Function.comp_apply, id_eq]
  rw [this]
  congr

theorem pay5_at (p : FVec Ideal S1024x768 .bf16) (w : FVec Ideal S768x2048 .bf16) (r : Fin 1024) (j : Fin 2048) :
    k1_pay5 p w (ix2 r j) = ∑ d, (p (ix2 r d) : EReal) * w (ix2 d j) := by
  pointwise [k1_pay5]

/-- The block's last stage: combine, gather and normalize over the classes. -/
theorem pay1_at (p : FVec Ideal S1024x2048 .f32) (w : FVec Ideal S64x1024 .bf16) (a : Vec Ideal S64x2048 .bf16)
    (b : Vec Ideal S2048x32 .bf16) (r : Fin 1024) (c : Fin 32) :
    k1_pay1 p w a b (ix2 r c)
      = soft (fun c => ∑ j, (p (ix2 r j) : EReal) * (∑ e, (w (ix2 e r) : EReal) * a (ix2 e j)) * b (ix2 j c)) c := by
  pointwise [k1_pay1]
  simp only [ofBits_neg_inf]
  rfl

end Moe
end
end
-- ==== Proof.Block.lean ====
module
public import proofs.«01_k».proof.Proof.Gen.KernelIdeal.Frame
public import proofs.«01_k».proof.Proof.Gate
public import Idealize.ShloMosaic.Lib.Pointwise
public import Idealize.ShloMosaic.Lib.Pipeline.ValueKit
@[expose] public section
set_option maxRecDepth 16384
noncomputable section
namespace Moe
open Idealize.ShloMosaic Idealize.ShloMosaic.TcCoe Idealize.SL.Sem Cert.KernelIdeal Cert.KernelIdeal.Gen

/-! # The second kernel: one block of 1024 rows, and the array it leaves -/

/-- The normalized class scores of one row, from its features, the gate's factors, the experts' products and the
    two 0/1 tables. -/
def scores (x : Fin 768 → EReal) (g1 : FVec Ideal S768x64 .f32) (g2 : FVec Ideal S64x64 .f32)
    (wc : FVec Ideal S768x2048 .bf16) (a : FVec Ideal S64x2048 .bf16) (b : FVec Ideal S2048x32 .bf16) : Fin 32 → EReal :=
  soft fun c => ∑ j, (∑ d, x d * wc (ix2 d j)) *
    (∑ e, kept (soft (logits x (fun d h => g1 (ix2 d h)) (fun h e => g2 (ix2 h e)))) e * a (ix2 e j)) * b (ix2 j c)

theorem out1_eq (x0 : Vec Ideal S1024x768 .f32) (x1 : Vec Ideal S768x64 .f32) (x2 : Vec Ideal S64x64 .f32)
    (x3 : Vec Ideal S768x2048 .bf16) (x4 : Vec Ideal S64x2048 .bf16) (x5 : Vec Ideal S2048x32 .bf16) :
    out1_6 x0 x1 x2 x3 x4 x5
      = k1_pay1 (k1_pay5 (k1_pay2 x0) x3) (k1_pay6 (k1_pay3 x0 x1 x2) (k1_pay4 x0 x1 x2)) x4 x5 := by
  frame_out

theorem rows_at (x : Vec Ideal S1024x768 .f32) (r : Fin 1024) (d : Fin 768) : k1_pay2 x (ix2 r d) = x (ix2 r d) := by
  pointwise [k1_pay2]

theorem kept_block_at (x0 : Vec Ideal S1024x768 .f32) (x1 : Vec Ideal S768x64 .f32) (x2 : Vec Ideal S64x64 .f32)
    (h0 : ∀ i, Fin' (x0 i)) (h1 : ∀ i, Fin' (x1 i)) (e : Fin 64) (r : Fin 1024) :
    k1_pay6 (k1_pay3 x0 x1 x2) (k1_pay4 x0 x1 x2) (ix2 e r)
      = kept (soft (logits (fun d => x0 (ix2 r d)) (fun d h => x1 (ix2 d h)) (fun h e => x2 (ix2 h e)))) e :=
  (pay6_at x0 x1 x2 e r).trans (congrArg (fun f => kept f e) (funext fun k =>
    pay3_at x0 x1 x2 (fun _ _ => h0 _) (fun _ _ => h1 _) k r))

theorem block1_at (x0 : Vec Ideal S1024x768 .f32) (x1 : Vec Ideal S768x64 .f32) (x2 : Vec Ideal S64x64 .f32)
    (x3 : Vec Ideal S768x2048 .bf16) (x4 : Vec Ideal S64x2048 .bf16) (x5 : Vec Ideal S2048x32 .bf16)
    (h0 : ∀ i, Fin' (x0 i)) (h1 : ∀ i, Fin' (x1 i)) (r : Fin 1024) (c : Fin 32) :
    out1_6 x0 x1 x2 x3 x4 x5 (ix2 r c) = scores (fun d => x0 (ix2 r d)) x1 x2 x3 x4 x5 c := by
  rw [out1_eq]
  refine (pay1_at _ _ _ _ r c).trans ?_
  simp only [pay5_at, rows_at, kept_block_at x0 x1 x2 h0 h1]
  rfl

theorem idx1 : ∀ t : Fin cfg1.N, win1_0.index t = ![t.val, 0] ∧ win1_1.index t = ![0, 0] ∧ win1_2.index t = ![0, 0] ∧
    win1_3.index t = ![0, 0] ∧ win1_4.index t = ![0, 0] ∧ win1_5.index t = ![0, 0] ∧ win1_6.index t = ![t.val, 0] :=
  (by decide +kernel : ∀ t : Fin grid1.N, _)

variable (V : (c : Dev nD) → (b : Ref sig .tc) → Buf (Elt Ideal) ((c : Thread nD τ).loc b))

/-- The array the second kernel leaves. -/
theorem out_array (c : Dev nD) (h0 : ∀ i, Fin' ((V c main_arg0 : FVec Ideal S16384x768 .f32) i))
    (h1 : ∀ i, Fin' ((V c main_arg1 : FVec Ideal S768x64 .f32) i)) :
    (dat1 V c).arrAt 6 cfg1.N = (fun i => scores (fun d => (V c main_arg0 : FVec Ideal S16384x768 .f32) (ix2 (i 0) d)) (V c main_arg1) (V c main_arg3) (V c main_v0)
      (V c main_cst) (V c main_cst_0) (i 1) : FVec Ideal S16384x32 .f32) := by
  refine (dat1 V c).arrAt_eq_of_covers 6 _ (by decide +kernel) fun t hf y => ?_
  blk_simp
  rw [after1_6]
  have f0 : ∀ i, Fin' ((iblk1 V c 0 t : FVec Ideal S1024x768 .f32) i) := fun i => by
    blk_simp [iblk1]; exact h0 _
  have f1 : ∀ i, Fin' ((iblk1 V c 1 t : FVec Ideal S768x64 .f32) i) := fun i => by
    blk_simp [iblk1]; exact h1 _
  obtain ⟨r, j, rfl⟩ : ∃ (r : Fin 1024) (j : Fin 32), y = ix2 r j := ⟨y 0, y 1, by funext a; fin_cases a <;> rfl⟩
  refine (block1_at _ _ _ _ _ _ f0 f1 r j).trans ?_
  have e1 : iblk1 V c 1 t = (V c main_arg1 : FVec Ideal S768x64 .f32) := by blk_ext! [iblk1, idx1 t]
  have e2 : iblk1 V c 2 t = (V c main_arg3 : FVec Ideal S64x64 .f32) := by blk_ext! [iblk1, idx1 t]
  have e3 : iblk1 V c 3 t = (V c main_v0 : FVec Ideal S768x2048 .bf16) := by blk_ext! [iblk1, idx1 t]
  have e4 : iblk1 V c 4 t = (V c main_cst : FVec Ideal S64x2048 .bf16) := by blk_ext! [iblk1, idx1 t]
  have e5 : iblk1 V c 5 t = (V c main_cst_0 : FVec Ideal S2048x32 .bf16) := by blk_ext! [iblk1, idx1 t]
  rw [e1, e2, e3, e4, e5]
  have hr : t.val * 1024 + r.val < 16384 := by have := t.isLt; have : cfg1.grid.N = 16 := rfl; omega
  have e0 (d : Fin 768) : (iblk1 V c 0 t : FVec Ideal S1024x768 .f32) (ix2 r d)
      = (V c main_arg0 : FVec Ideal S16384x768 .f32) (ix2 ⟨t.val * 1024 + r.val, hr⟩ d) := by blk_ext [iblk1, idx1 t]
  have hi : (win1_6.blk t).view.emb (ix2 r j) = (ix2 ⟨t.val * 1024 + r.val, hr⟩ j : S16384x32.Idx) := by
    blk_ext [idx1 t]
  simp only [e0]
  generalize (win1_6.blk t).view.emb (ix2 r j) = i at hi ⊢
  subst hi
  rfl
end Moe
end
end
-- ==== Proof.KernelValue.lean ====
module
public import proofs.«01_k».proof.Proof.Tables
public import proofs.«01_k».proof.Proof.Collapse
public import proofs.«01_k».proof.Proof.Block
@[expose] public section
set_option maxRecDepth 16384
noncomputable section
namespace Moe
open Idealize.ShloMosaic Idealize.ShloMosaic.TcCoe Idealize.SL.Sem Cert.KernelIdeal Cert.KernelIdeal.Gen

/-! # The kernel's result, from its arguments -/

/-- The table that spreads an expert's weight over its columns. -/
def spread : FVec Ideal S64x2048 .bf16 := fun i => FloatOps.ofBits .bf16 (lit0 (S64x2048.rowMajor i))

/-- The table that gathers the columns of one class. -/
def gatherT : FVec Ideal S2048x32 .bf16 := fun i => FloatOps.ofBits .bf16 (lit1 (S2048x32.rowMajor i))

theorem word_value (p : Prop) [Decidable p] :
    Ideal.ofBits .bf16 (if p then 0x3F80#16 else 0x0000#16) = if p then 1 else 0 := by
  split <;> simp

theorem spread_at (a b : Fin 64) (k : Fin 32) :
    (spread (ix2 a ⟨32 * b.val + k.val, by omega⟩) : EReal) = if b = a then 1 else 0 := by
  have h : (S64x2048.rowMajor (ix2 a ⟨32 * b.val + k.val, by omega⟩)).val = 2048 * a.val + (32 * b.val + k.val) := by
    refine (Shape.rowMajor_val_two _).trans ?_
    change a.val * 2048 + (32 * b.val + k.val) = _
    omega
  have e : spread (ix2 a ⟨32 * b.val + k.val, by omega⟩)
      = Ideal.ofBits .bf16 (lit0t (S64x2048.rowMajor (ix2 a ⟨32 * b.val + k.val, by omega⟩)).val) := rfl
  rw [e, h, lit0_eq _ _ _ a.isLt b.isLt k.isLt, word_value]
  exact if_congr Fin.ext_iff.symm rfl rfl

theorem gatherT_at (b : Fin 64) (k c : Fin 32) :
    (gatherT (ix2 ⟨32 * b.val + k.val, by omega⟩ c) : EReal) = if k = c then 1 else 0 := by
  have h : (S2048x32.rowMajor (ix2 ⟨32 * b.val + k.val, by omega⟩ c)).val = 32 * (32 * b.val + k.val) + c.val := by
    refine (Shape.rowMajor_val_two _).trans ?_
    change (32 * b.val + k.val) * 32 + c.val = _
    omega
  have e : gatherT (ix2 ⟨32 * b.val + k.val, by omega⟩ c)
      = Ideal.ofBits .bf16 (lit1t (S2048x32.rowMajor (ix2 ⟨32 * b.val + k.val, by omega⟩ c)).val) := rfl
  rw [e, h, lit1_eq _ _ _ b.isLt k.isLt c.isLt, word_value]
  exact if_congr Fin.ext_iff.symm rfl rfl

variable (m : (ℓ : Loc nD τ sig) → Buf (Elt Ideal) ℓ) (ρ : Dev nD → PrngReg) (c : Dev nD)

theorem entry_spread : W1 m ρ c (Proc.devRef .tc main_cst) = spread := by
  after_results
  rfl

theorem entry_gather : W1 m ρ c (Proc.devRef .tc main_cst_0) = gatherT := by
  after_results
  rfl

/-- The result array after the run. -/
theorem kernel_value (h0 : ∀ i, Fin' ((m ((c : Thread nD τ).loc main_arg0) : FVec Ideal S16384x768 .f32) i))
    (h1 : ∀ i, Fin' ((m ((c : Thread nD τ).loc main_arg1) : FVec Ideal S768x64 .f32) i))
    (h7 : ∀ i, Fin' ((m ((c : Thread nD τ).loc main_arg7) : FVec Ideal S64x32x64 .f32) i))
    (h9 : ∀ i, Fin' ((m ((c : Thread nD τ).loc main_arg9) : FVec Ideal S64x64x32 .f32) i)) :
    W3 m ρ c (Proc.devRef .tc main_v1) = (fun i => scores
      (fun d => (m ((c : Thread nD τ).loc main_arg0) : FVec Ideal S16384x768 .f32) (ix2 (i 0) d))
      (m ((c : Thread nD τ).loc main_arg1)) (m ((c : Thread nD τ).loc main_arg3))
      (wcat (m ((c : Thread nD τ).loc main_arg5)) (m ((c : Thread nD τ).loc main_arg7)) (m ((c : Thread nD τ).loc main_arg9)))
      spread gatherT (i 1) : FVec Ideal S16384x32 .f32) := by
  have a0 : V2 m ρ c main_arg0 = m ((c : Thread nD τ).loc main_arg0) := W2_args m ρ c main_arg0 (by decide)
  have a1 : V2 m ρ c main_arg1 = m ((c : Thread nD τ).loc main_arg1) := W2_args m ρ c main_arg1 (by decide)
  have a3 : V2 m ρ c main_arg3 = m ((c : Thread nD τ).loc main_arg3) := W2_args m ρ c main_arg3 (by decide)
  have a5 : V1 m ρ c main_arg5 = m ((c : Thread nD τ).loc main_arg5) := W1_args m ρ c main_arg5 (by decide)
  have a7 : V1 m ρ c main_arg7 = m ((c : Thread nD τ).loc main_arg7) := W1_args m ρ c main_arg7 (by decide)
  have a9 : V1 m ρ c main_arg9 = m ((c : Thread nD τ).loc main_arg9) := W1_args m ρ c main_arg9 (by decide)
  have t0 : V2 m ρ c main_cst = spread :=
    (W2_of_ne m ρ c main_cst (by decide)).trans (entry_spread m ρ c)
  have t1 : V2 m ρ c main_cst_0 = gatherT :=
    (W2_of_ne m ρ c main_cst_0 (by decide)).trans (entry_gather m ρ c)
  have v0 : V2 m ρ c main_v0 = wcat (m ((c : Thread nD τ).loc main_arg5)) (m ((c : Thread nD τ).loc main_arg7))
      (m ((c : Thread nD τ).loc main_arg9)) := by
    refine (W2_arr m ρ c 3).trans ((wcat_array (V1 m ρ) c ?_ ?_).trans ?_)
    · rw [a7]; exact h7
    · rw [a9]; exact h9
    · rw [a5, a7, a9]
  refine (W3_arr m ρ c 6).trans ((out_array (V2 m ρ) c ?_ ?_).trans ?_)
  · rw [a0]; exact h0
  · rw [a1]; exact h1
  · rw [a0, a1, a3, v0, t0, t1]
end Moe
end
end
-- ==== Proof.Reference.lean ====
module
public import proofs.«01_k».proof.Proof.Gen.ReferenceIdeal.Run
public import proofs.«01_k».proof.Proof.Gate
public import Idealize.ShloMosaic.Lib.Pointwise
public import Idealize.ShloMosaic.Lib.SortFacts
public import Mathlib.Tactic.IntervalCases
public import Idealize.ShloMosaic.Lib.Tactic.CleanTypes
@[expose] public section
set_option maxRecDepth 16384
noncomputable section
namespace Moe
open Idealize.ShloMosaic Cert.ReferenceIdeal Cert.ReferenceIdeal.Gen Cert.ReferenceIdeal.Value

/-! # The reference, read at an index -/

/-- The order in which a descending sort takes the entries of a row. -/
def order (w : Fin 64 → EReal) : Fin 64 → Fin 64 :=
  sortedFrom fun i j => FloatOps.cmpfTotal (F := Ideal) (φ := .f32) .gt (w i) (w j) == 1#1

theorem along_row (n : Fin 16384) (k j : Fin 64) :
    Shape.Idx.along (s := S16384x64) (ix2 n k) (1 : Fin 2) j = ix2 n j := by
  funext i
  fin_cases i <;> rfl

theorem topK_values (x : FVec Ideal S16384x64 .f32) (n : Fin 16384) (k : Fin 8) :
    (Host.topK S16384x8 1 (FloatOps.cmpfTotal .gt) x sliceFits_S16384x64_S16384x8).1 (ix2 n k)
      = x (ix2 n (order (fun e => x (ix2 n e)) ⟨k.val, by omega⟩)) := by
  unfold Host.topK Host.sort2
  pointwise []
  simp only [along_row]
  rfl

theorem topK_indices (x : FVec Ideal S16384x64 .f32) (n : Fin 16384) (k : Fin 8) :
    (Host.topK S16384x8 1 (FloatOps.cmpfTotal .gt) x sliceFits_S16384x64_S16384x8).2 (ix2 n k)
      = BitVec.ofNat 32 (order (fun e => x (ix2 n e)) ⟨k.val, by omega⟩).val := by
  unfold Host.topK Host.sort2
  pointwise []
  simp only [along_row]
  rfl

/-! ## The sorted row -/

theorem gt_eq (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

theorem order_bijective (w : Fin 64 → EReal) : Function.Bijective (order w) :=
  ⟨sortedFrom_injective _, sortedFrom_surjective _⟩

theorem order_mono (w : Fin 64 → EReal) (i j : Fin 64) (h : i < j) : w (order w j) ≤ w (order w i) := by
  have := sortedFrom_noInversion (fun i j => FloatOps.cmpfTotal (F := Ideal) (φ := .f32) .gt (w i) (w j) == 1#1)
    (fun i j => FloatOps.cmpfTotal (F := Ideal) (φ := .f32) .gt (w i) (w j) == 1#1)
    (fun a b h => by rw [gt_eq] at h ⊢; simp only [decide_eq_true_eq, decide_eq_false_iff_not] at h ⊢; exact h.le.not_gt)
    (fun a b h => h)
    (fun a b c h1 h2 => by
      rw [gt_eq] at h1 h2 ⊢
      simp only [decide_eq_false_iff_not, not_lt] at h1 h2 ⊢
      exact h1.trans h2) i j h
  rw [gt_eq, decide_eq_false_iff_not, not_lt] at this
  exact this

/-! ## The gate -/

section
variable (V0 : Valuation τ sig (Elt Ideal))

theorem v8_at (h2 : ∀ h, V0 (Proc.tc.devRef main_arg2) (ix1 h) = (0 : EReal))
    (h4 : ∀ h, V0 (Proc.tc.devRef main_arg4) (ix1 h) = (0 : EReal)) (n : Fin 16384) (e : Fin 64) :
    res_main_v8 V0 (ix2 n e) = logits (fun d => V0 (Proc.tc.devRef main_arg0) (ix2 n d))
      (fun d h => V0 (Proc.tc.devRef main_arg1) (ix2 d h)) (fun h e => V0 (Proc.tc.devRef main_arg3) (ix2 h e)) e := by
  unfold res_main_v8
  clean_types
  pointwise []
  rw [show ∀ a, (a : EReal) + V0 (Proc.tc.devRef main_arg4) (ix1 e) = a from fun a => by rw [h4, add_zero]]
  refine Finset.sum_congr rfl fun h _ => ?_
  rw [show ∀ a, (a : EReal) + V0 (Proc.tc.devRef main_arg2) (ix1 h) = a from fun a => by rw [h2, add_zero]]
  exact mul_comm _ _

/-- The reference's gate weights are the softmax of its logits. -/
theorem v19_at (n : Fin 16384) (e : Fin 64) :
    res_main_v19 V0 (ix2 n e) = soft (fun e => res_main_v8 V0 (ix2 n e)) e := by
  unfold res_main_v19 res_main_v15
  clean_types
  pointwise []
  simp only [ofBits_neg_inf, bot_le, sup_of_le_right]
  rfl

/-! ## The experts -/

/-- The experts' outputs on every row, as the reference forms them. -/
def experts (x : FVec Ideal S16384x768 .f32) (w1 : FVec Ideal S64x768x32 .f32) (b1 : FVec Ideal S64x32 .f32)
    (w2 : FVec Ideal S64x32x64 .f32) (b2 : FVec Ideal S64x64 .f32) (w3 : FVec Ideal S64x64x32 .f32)
    (b3 : FVec Ideal S64x32 .f32) : FVec Ideal S16384x64x32 .f32 :=
  addf (transpose S16384x64x32 [2, 0, 1] (Host.dotGeneral dot_S64x64x32_S16384x64x64_S64x32x16384_1_2_2_0_0_1 none w3
      (addf (transpose S16384x64x64 [2, 0, 1] (Host.dotGeneral dot_S64x32x64_S16384x64x32_S64x64x16384_1_2_2_0_0_1 none w2
          (addf (Host.dotGeneral dot_S16384x768_S64x768x32_S16384x64x32_1_1_0_02_n_n none x w1)
            (broadcastInDim S16384x64x32 ![0, 1, 2] bcast_S1x64x32_S16384x64x32_0_1_2
              (broadcastInDim S1x64x32 ![1, 2] bcast_S64x32_S1x64x32_1_2 b1))))
          transposes_S64x64x16384_S16384x64x64_2_0_1)
        (broadcastInDim S16384x64x64 ![0, 1, 2] bcast_S1x64x64_S16384x64x64_0_1_2
          (broadcastInDim S1x64x64 ![1, 2] bcast_S64x64_S1x64x64_1_2 b2))))
      transposes_S64x32x16384_S16384x64x32_2_0_1)
    (broadcastInDim S16384x64x32 ![0, 1, 2] bcast_S1x64x32_S16384x64x32_0_1_2
      (broadcastInDim S1x64x32 ![1, 2] bcast_S64x32_S1x64x32_1_2 b3))

theorem experts_at (x : FVec Ideal S16384x768 .f32) (w1 : FVec Ideal S64x768x32 .f32) (b1 : FVec Ideal S64x32 .f32)
    (w2 : FVec Ideal S64x32x64 .f32) (b2 : FVec Ideal S64x64 .f32) (w3 : FVec Ideal S64x64x32 .f32)
    (b3 : FVec Ideal S64x32 .f32) (n : Fin 16384) (e : Fin 64) (c : Fin 32) : experts x w1 b1 w2 b2 w3 b3 (ix3 n e c)
      = (∑ f, (w3 (ix3 e f c) : EReal) * ((∑ h, (w2 (ix3 e h f) : EReal)
          * ((∑ d, (x (ix2 n d) : EReal) * w1 (ix3 e d h)) + b1 (ix2 e h))) + b2 (ix2 e f))) + b3 (ix2 e c) := by
  unfold experts
  pointwise []

/-- Whether every index word of a slot lies among the experts. -/
def inRange (i : IVec S16384x8x1 32) : IVec S16384x8x32 1 :=
  broadcastInDim S16384x8x32 ![0, 1] bcast_S16384x8_S16384x8x32_0_1 (Host.reduce IntOp.andi (andi (cmpi .sge i (broadcastInDim S16384x8x1 ![] bcast_S_S16384x8x1 (constantI S_ 32 0#32))) (cmpi .sle i (broadcastInDim S16384x8x1 ![0, 1, 2] bcast_S1x1x1_S16384x8x1_0_1_2 (broadcastInDim S1x1x1 ![2] bcast_S1_S1x1x1_2 (constantI S1 32 63#32))))) (constantI S_ 1 1#1) reducesTo_S16384x8x1_S16384x8_d2 h_S_)

theorem inRange_at (i : IVec S16384x8x1 32) (n : Fin 16384) (k : Fin 8) (c : Fin 32) (e : Fin 64)
    (h : i (ix3 n k 0) = BitVec.ofNat 32 e.val) : inRange i (ix3 n k c) = 1#1 := by
  pointwise [inRange]
  rw [show (Finset.univ : Finset (Fin 1)) = {0} from rfl, Finset.fold_singleton, h]
  clear h
  revert e
  decide

/-- The weighted sum of the chosen experts' outputs. -/
def mixed (m : IVec S16384x8x32 1) (g : FVec Ideal S16384x8x32 .f32) (v : FVec Ideal S16384x8 .f32) : FVec Ideal S16384x32 .f32 :=
  Host.reduceAdd (mulf (select m g (broadcastInDim S16384x8x32 ![] bcast_S_S16384x8x32 (constant S_ .f32 0x7FC00000#32))) (broadcastInDim S16384x8x32 ![0, 1, 2] bcast_S16384x8x1_S16384x8x32_0_1_2 (broadcastInDim S16384x8x1 ![0, 1] bcast_S16384x8_S16384x8x1_0_1 v))) (constant S_ .f32 0x00000000#32) reducesTo_S16384x8x32_S16384x32_d1 h_S_

theorem mixed_at (m : IVec S16384x8x32 1) (g : FVec Ideal S16384x8x32 .f32) (v : FVec Ideal S16384x8 .f32)
    (n : Fin 16384) (c : Fin 32) (hm : ∀ k, m (ix3 n k c) = 1#1) :
    mixed m g v (ix2 n c) = ∑ k, (g (ix3 n k c) : EReal) * v (ix2 n k) := by
  pointwise [mixed]
  simp only [hm]
  rfl

theorem v39_eq : res_main_v39 V0 = mixed (inRange (res_main_call1_v4 V0))
    (Host.gather gather_S16384x64x32_S16384x8x1_S16384x8x32_2_1_0_0_1_2_1132 (experts (V0 (Proc.devRef .tc main_arg0)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (res_main_call1_v4 V0))
    ((Host.topK S16384x8 1 (FloatOps.cmpfTotal .gt) (res_main_v19 V0) sliceFits_S16384x64_S16384x8).1) := rfl

/-- The index words the reference gathers by, from those of its selection. -/
def wrap (i : IVec S16384x8x1 32) : IVec S16384x8x1 32 :=
  select (cmpi .slt i (broadcastInDim S16384x8x1 ![] bcast_S_S16384x8x1 (constantI S_ 32 0#32))) (addi i (broadcastInDim S16384x8x1 ![] bcast_S_S16384x8x1 (constantI S_ 32 64#32))) i

theorem wrap_at (i : IVec S16384x8x1 32) (n : Fin 16384) (k : Fin 8) (e : Fin 64) (h : i (ix3 n k 0) = BitVec.ofNat 32 e.val) :
    wrap i (ix3 n k 0) = BitVec.ofNat 32 e.val := by
  pointwise [wrap]
  rw [h]
  clear h
  revert e
  decide

theorem v4_eq : res_main_call1_v4 V0 = wrap (res_main_v34 V0) := rfl

theorem v34_at (n : Fin 16384) (k : Fin 8) : res_main_v34 V0 (ix3 n k 0) =
    (Host.topK S16384x8 1 (FloatOps.cmpfTotal .gt) (res_main_v19 V0) sliceFits_S16384x64_S16384x8).2 (ix2 n k) := by
  unfold res_main_v34
  clean_types
  pointwise []

/-- The reference's last stage: the softmax over the classes. -/
def classes (u : FVec Ideal S16384x32 .f32) : FVec Ideal S16384x32 .f32 :=
  Host.exp (subf u (broadcastInDim S16384x32 ![0, 1] bcast_S16384x1_S16384x32_0_1 (broadcastInDim S16384x1 ![0] bcast_S16384_S16384x1_0 (maximumf (broadcastInDim S16384 ![] bcast_S_S16384 (constant S_ .f32 0xFF800000#32)) (Host.reduce FloatOps.maximumf u (constant S_ .f32 0xFF800000#32) reducesTo_S16384x32_S16384_d1 h_S_)))))

theorem classes_at (u : FVec Ideal S16384x32 .f32) (n : Fin 16384) (c : Fin 32) :
    Host.divf (classes u) (broadcastInDim S16384x32 ![0, 1] bcast_S16384x1_S16384x32_0_1 (broadcastInDim S16384x1 ![0] bcast_S16384_S16384x1_0 (Host.reduceAdd (classes u) (constant S_ .f32 0x00000000#32) reducesTo_S16384x32_S16384_d1 h_S_))) (ix2 n c)
      = soft (fun c => u (ix2 n c)) c := by
  pointwise [classes]
  simp only [ofBits_neg_inf, bot_le, sup_of_le_right]
  rfl

theorem v46_eq : res_main_v46 V0 = classes (res_main_v39 V0) := rfl
end

end Moe
end
end
-- ==== Proof.Pre.lean ====
module
public import proofs.«01_k».proof.Pre_admissible
public import proofs.«01_k».proof.Proof.Reference
@[expose] public section
set_option maxRecDepth 16384
noncomputable section
namespace Moe
open Idealize.ShloMosaic Cert.ReferenceIdeal Cert.ReferenceIdeal.Gen Cert.ReferenceIdeal.Value

/-! # What the precondition says -/

theorem admissible_facts : Cert.Pre_admissible.Facts where
  bcast_S64_S1x64_1 := by decide
  bcast_S1x64_S16384x64_0_1 := by decide
  bcast_S_S16384x64 := by decide
  reducesTo_S16384x64_S16384_d1 := by decide
  h_S_ := by decide
  bcast_S_S16384 := by decide
  bcast_S16384_S16384x1_0 := by decide
  bcast_S16384x1_S16384x64_0_1 := by decide
  sliceFits_S16384x64_S16384x9 := by decide
  bcast_S_S16384x768 := by decide
  bcast_S_S768x64 := by decide
  bcast_S_S64x64 := by decide
  bcast_S_S64x768x32 := by decide
  bcast_S_S64x32x64 := by decide
  bcast_S_S64x64x32 := by decide
  bcast_S_S64 := by decide
  bcast_S_S64x32 := by decide
  slices_S16384x9_S16384x8_0_0 := by decide
  slices_S16384x9_S16384x8_0_1 := by decide
  dot_S16384x768_S768x64_S16384x64_1_0_0_1_n_n_wf := by decide
  dot_S16384x64_S64x64_S16384x64_1_0_0_1_n_n_wf := by decide

theorem ofBits_inf : Ideal.ofBits .f32 0x7F800000#32 = ⊤ := by
  simp [Ideal.ofBits, Ideal.ieee]

/-- A magnitude below infinity belongs to a real number. -/
theorem real_of_olt {s : Shape} (x : FVec Ideal s .f32) (b : S_.BroadcastsInDim s (![] : Fin 0 → Fin s.rank))
    (h : cmpf .olt (Host.absf x) (broadcastInDim s ![] b (constant S_ .f32 0x7F800000#32)) = fun _ => 1#1) (i : s.Idx) :
    Fin' (x i) := by
  have hi := congrFun h i
  change BitVec.ofBool (decide (max (x i : EReal) (-(x i : EReal)) < Ideal.ofBits .f32 0x7F800000#32)) = 1#1 at hi
  rw [ofBits_inf] at hi
  have hlt : max (x i : EReal) (-(x i : EReal)) < ⊤ := by
    by_contra hn
    rw [decide_eq_false hn] at hi
    exact absurd hi (by decide)
  refine .of_ne (fun hb => ?_) (fun ht => ?_)
  · rw [hb] at hlt; simp at hlt
  · rw [ht] at hlt; simp at hlt

/-- An entry equal to the zero word is zero. -/
theorem zero_of_oeq {s : Shape} (x : FVec Ideal s .f32) (b : S_.BroadcastsInDim s (![] : Fin 0 → Fin s.rank))
    (h : cmpf .oeq x (broadcastInDim s ![] b (constant S_ .f32 0x00000000#32)) = fun _ => 1#1) (i : s.Idx) :
    (x i : EReal) = 0 := by
  have hi := congrFun h i
  change BitVec.ofBool (decide ((x i : EReal) = Ideal.ofBits .f32 0x00000000#32)) = 1#1 at hi
  by_contra hn
  rw [decide_eq_false (by simpa using hn)] at hi
  exact absurd hi (by decide)

theorem top9_values (x : FVec Ideal S16384x64 .f32) (f : S16384x64.Slices (fun _ => 0) Cert.Pre_admissible.S16384x9)
    (n : Fin 16384) (k : Fin 9) :
    (Host.topK Cert.Pre_admissible.S16384x9 1 (FloatOps.cmpfTotal .gt) x f).1 (ix2 n k)
      = x (ix2 n (order (fun e => x (ix2 n e)) ⟨k.val, by omega⟩)) := by
  unfold Host.topK Host.sort2
  pointwise []
  simp only [along_row]
  rfl

/-- Consecutive entries of nine columns, compared. -/
def steps (v : FVec Ideal Cert.Pre_admissible.S16384x9 .f32)
    (a : Cert.Pre_admissible.S16384x9.Slices ![0, 0] S16384x8) (b : Cert.Pre_admissible.S16384x9.Slices ![0, 1] S16384x8) :
    IVec S16384x8 1 :=
  cmpf .ogt (extractStridedSlice S16384x8 ![0, 0] v a) (extractStridedSlice S16384x8 ![0, 1] v b)

theorem steps_at (v : FVec Ideal Cert.Pre_admissible.S16384x9 .f32) (a b) (n : Fin 16384) (k : Fin 8) :
    steps v a b (ix2 n k) = BitVec.ofBool (decide
      ((v (ix2 n (⟨k.val + 1, by omega⟩ : Fin 9)) : EReal) < v (ix2 n (⟨k.val, by omega⟩ : Fin 9)))) := by
  have e (i j i' j' : Cert.Pre_admissible.S16384x9.Idx) (hi : i = i') (hj : j = j') :
      BitVec.ofBool (decide ((v j : EReal) < v i)) = BitVec.ofBool (decide ((v j' : EReal) < v i')) := by rw [hi, hj]
  refine e _ _ _ _ (funext fun a => Fin.ext ?_) (funext fun a => Fin.ext ?_)
  · fin_cases a
    · exact Nat.zero_add _
    · exact Nat.zero_add _
  · fin_cases a
    · exact Nat.zero_add _
    · exact Nat.add_comm 1 _

theorem lt_of_word {a b : EReal} (h : BitVec.ofBool (decide (a < b)) = 1#1) : a < b := by
  by_contra hn
  rw [decide_eq_false hn] at h
  exact absurd h (by decide)

theorem strict_of_ogt (x : FVec Ideal S16384x64 .f32) (f : S16384x64.Slices (fun _ => 0) Cert.Pre_admissible.S16384x9) (a b)
    (h : steps (Host.topK Cert.Pre_admissible.S16384x9 1 (FloatOps.cmpfTotal .gt) x f).1 a b = fun _ => 1#1) (n : Fin 16384)
    (k : ℕ) (hk : k < 8) :
    (x (ix2 n (order (fun e => x (ix2 n e)) ⟨k + 1, by omega⟩)) : EReal)
      < x (ix2 n (order (fun e => x (ix2 n e)) ⟨k, by omega⟩)) := by
  have h1 := lt_of_word ((steps_at _ a b n ⟨k, hk⟩).symm.trans (congrFun h (ix2 n ⟨k, hk⟩)))
  have e0 := top9_values x f n ⟨k, by omega⟩
  have e1 := top9_values x f n ⟨k + 1, by omega⟩
  exact lt_of_eq_of_lt e1.symm (lt_of_lt_of_eq h1 e0)

/-- The nine greatest entries of a row differ. -/
def StrictRow (w : Fin 64 → EReal) : Prop :=
  ∀ (k : ℕ) (hk : k < 8), w (order w ⟨k + 1, by omega⟩) < w (order w ⟨k, by omega⟩)

/-- The precondition, decoded: real entries, zero biases, and a strict order among each row's nine greatest weights. -/
structure Ready (V0 : Valuation τ sig (Elt Ideal)) : Prop where
  x : ∀ i, Fin' ((V0 (Proc.devRef .tc main_arg0) : FVec Ideal S16384x768 .f32) i)
  g1 : ∀ i, Fin' ((V0 (Proc.devRef .tc main_arg1) : FVec Ideal S768x64 .f32) i)
  w1 : ∀ i, Fin' ((V0 (Proc.devRef .tc main_arg5) : FVec Ideal S64x768x32 .f32) i)
  w2 : ∀ i, Fin' ((V0 (Proc.devRef .tc main_arg7) : FVec Ideal S64x32x64 .f32) i)
  w3 : ∀ i, Fin' ((V0 (Proc.devRef .tc main_arg9) : FVec Ideal S64x64x32 .f32) i)
  c1 : ∀ i, (V0 (Proc.devRef .tc main_arg2) : FVec Ideal S64 .f32) i = (0 : EReal)
  c2 : ∀ i, (V0 (Proc.devRef .tc main_arg4) : FVec Ideal S64 .f32) i = (0 : EReal)
  b1 : ∀ i, (V0 (Proc.devRef .tc main_arg6) : FVec Ideal S64x32 .f32) i = (0 : EReal)
  b2 : ∀ i, (V0 (Proc.devRef .tc main_arg8) : FVec Ideal S64x64 .f32) i = (0 : EReal)
  b3 : ∀ i, (V0 (Proc.devRef .tc main_arg10) : FVec Ideal S64x32 .f32) i = (0 : EReal)
  strict : ∀ n : Fin 16384, StrictRow fun e => res_main_v19 V0 (ix2 n e)

/-- The precondition at the contents `V0`. -/
abbrev holdsAt (V0 : Valuation τ sig (Elt Ideal)) :=
  letI := admissible_facts
  Cert.Pre_admissible.fn (F := Ideal) (V0 (Proc.devRef .tc main_arg0)) (V0 (Proc.devRef .tc main_arg1))
    (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))

theorem steps_eq (V0 : Valuation τ sig (Elt Ideal)) : (holdsAt V0).2.2.2.2.2.2.2.2.2.2
    = steps (Host.topK Cert.Pre_admissible.S16384x9 1 (FloatOps.cmpfTotal .gt) (res_main_v19 V0) (by decide)).1 (by decide) (by decide) := rfl

theorem ready (V0 : Valuation τ sig (Elt Ideal))
    (h : (holdsAt V0).1 = (fun _ => 1#1) ∧ (holdsAt V0).2.1 = (fun _ => 1#1) ∧ (holdsAt V0).2.2.1 = (fun _ => 1#1)
      ∧ (holdsAt V0).2.2.2.1 = (fun _ => 1#1) ∧ (holdsAt V0).2.2.2.2.1 = (fun _ => 1#1)
      ∧ (holdsAt V0).2.2.2.2.2.1 = (fun _ => 1#1) ∧ (holdsAt V0).2.2.2.2.2.2.1 = (fun _ => 1#1)
      ∧ (holdsAt V0).2.2.2.2.2.2.2.1 = (fun _ => 1#1) ∧ (holdsAt V0).2.2.2.2.2.2.2.2.1 = (fun _ => 1#1)
      ∧ (holdsAt V0).2.2.2.2.2.2.2.2.2.1 = (fun _ => 1#1)
      ∧ (holdsAt V0).2.2.2.2.2.2.2.2.2.2 = (fun _ => 1#1)) : Ready V0 := by
  obtain ⟨h0, h1, h5, h7, h9, h2, h4, h6, h8, h10, hs⟩ := h
  exact
    { x := real_of_olt _ _ h0
      g1 := real_of_olt _ _ h1
      w1 := real_of_olt _ _ h5
      w2 := real_of_olt _ _ h7
      w3 := real_of_olt _ _ h9
      c1 := zero_of_oeq _ _ h2
      c2 := zero_of_oeq _ _ h4
      b1 := zero_of_oeq _ _ h6
      b2 := zero_of_oeq _ _ h8
      b3 := zero_of_oeq _ _ h10
      strict := strict_of_ogt _ _ _ _ ((steps_eq V0).symm.trans hs) }
end Moe
end
end
-- ==== Proof.Gather.lean ====
module
public import proofs.«01_k».proof.Proof.Gen.ReferenceIdeal
public import Idealize.ShloMosaic.Lib.Pointwise
public import Mathlib.Tactic.IntervalCases
@[expose] public section
set_option maxRecDepth 16384
noncomputable section
namespace Moe
open Idealize.ShloMosaic Cert.ReferenceIdeal Cert.ReferenceIdeal.Gen

/-! # The reference's gather along the experts -/

/-- Reading a gathered slot whose index word names expert `e`. -/
theorem gather_at (x : FVec Ideal S16384x64x32 .f32) (i : IVec S16384x8x1 32) (n : Fin 16384) (k : Fin 8) (c : Fin 32)
    (e : Fin 64) (hi : i (ix3 n k 0) = BitVec.ofNat 32 e.val) :
    Host.gather gather_S16384x64x32_S16384x8x1_S16384x8x32_2_1_0_0_1_2_1132 x i (ix3 n k c) = x (ix3 n e c) := by
  unfold Host.gather
  refine congrArg x (funext fun a => Fin.ext ?_)
  have h0 : (BitVec.ofNat 32 e.val).toInt.toNat = e.val := by
    have := e.isLt
    generalize e.val = m at this ⊢
    interval_cases m <;> rfl
  show GatherDims.start _ _ i a + GatherDims.batchCoord _ _ a + GatherDims.offCoord _ _ a = _
  generalize hD : gather_S16384x64x32_S16384x8x1_S16384x8x32_2_1_0_0_1_2_1132 = D
  subst hD
  match a with
  | ⟨0, _⟩ =>
    unfold GatherDims.start GatherDims.batchCoord GatherDims.offCoord
    rw [dif_neg (by decide +revert), dif_pos (by decide +revert), dif_neg (by decide +revert)]
    show 0 + n.val + 0 = n.val
    omega
  | ⟨1, _⟩ =>
    unfold GatherDims.start GatherDims.batchCoord GatherDims.offCoord
    rw [dif_pos (by decide +revert), dif_neg (by decide +revert), dif_neg (by decide +revert)]
    have hs : GatherDims.siIdx gather_S16384x64x32_S16384x8x1_S16384x8x32_2_1_0_0_1_2_1132 (ix3 n k c) ⟨0, by decide⟩ = ix3 n k 0 := by
      funext b
      match b with
      | ⟨0, _⟩ => unfold GatherDims.siIdx; rw [dif_neg (by decide +revert)]; rfl
      | ⟨1, _⟩ => unfold GatherDims.siIdx; rw [dif_neg (by decide +revert)]; rfl
      | ⟨2, _⟩ => unfold GatherDims.siIdx; rw [dif_pos (by decide +revert)]; rfl
    show min (i (GatherDims.siIdx gather_S16384x64x32_S16384x8x1_S16384x8x32_2_1_0_0_1_2_1132 (ix3 n k c) ⟨0, _⟩)).toInt.toNat 63 + 0 + 0 = e.val
    rw [hs, hi, h0]
    omega
  | ⟨2, _⟩ =>
    unfold GatherDims.start GatherDims.batchCoord GatherDims.offCoord
    rw [dif_neg (by decide +revert), dif_neg (by decide +revert), dif_pos (by decide +revert)]
    show 0 + 0 + c.val = c.val
    omega
end Moe
end
end
-- ==== Proof.RefValue.lean ====
module
public import proofs.«01_k».proof.Proof.Pre
public import proofs.«01_k».proof.Proof.Gather
@[expose] public section
set_option maxRecDepth 16384
noncomputable section
namespace Moe
open Idealize.ShloMosaic Cert.ReferenceIdeal Cert.ReferenceIdeal.Gen Cert.ReferenceIdeal.Value

/-! # The reference's result, from its arguments -/

/-- Expert `e`'s score for class `c` on one row. -/
def expert (x : Fin 768 → EReal) (w1 : FVec Ideal S64x768x32 .f32) (w2 : FVec Ideal S64x32x64 .f32)
    (w3 : FVec Ideal S64x64x32 .f32) (e : Fin 64) (c : Fin 32) : EReal :=
  ∑ f, (w3 (ix3 e f c) : EReal) * ∑ h, (w2 (ix3 e h f) : EReal) * ∑ d, x d * w1 (ix3 e d h)

theorem experts_zero (x : FVec Ideal S16384x768 .f32) (w1 : FVec Ideal S64x768x32 .f32) (b1 : FVec Ideal S64x32 .f32)
    (w2 : FVec Ideal S64x32x64 .f32) (b2 : FVec Ideal S64x64 .f32) (w3 : FVec Ideal S64x64x32 .f32)
    (b3 : FVec Ideal S64x32 .f32) (h1 : ∀ i, b1 i = (0 : EReal)) (h2 : ∀ i, b2 i = (0 : EReal))
    (h3 : ∀ i, b3 i = (0 : EReal)) (n : Fin 16384) (e : Fin 64) (c : Fin 32) :
    experts x w1 b1 w2 b2 w3 b3 (ix3 n e c) = expert (fun d => x (ix2 n d)) w1 w2 w3 e c := by
  rw [experts_at]
  simp only [h1, h2, h3, add_zero]
  rfl

/-- The weighted sum of the eight best experts' scores. -/
def best (w : Fin 64 → EReal) (y : Fin 64 → EReal) : EReal :=
  ∑ k : Fin 8, y (order w ⟨k.val, by omega⟩) * w (order w ⟨k.val, by omega⟩)

variable (V0 : Valuation τ sig (Elt Ideal))

theorem mix_at (hr : Ready V0) (n : Fin 16384) (c : Fin 32) :
    res_main_v39 V0 (ix2 n c) = best (fun e => res_main_v19 V0 (ix2 n e)) fun e =>
      expert (fun d => V0 (Proc.devRef .tc main_arg0) (ix2 n d)) (V0 (Proc.devRef .tc main_arg5))
        (V0 (Proc.devRef .tc main_arg7)) (V0 (Proc.devRef .tc main_arg9)) e c := by
  have hi (k : Fin 8) : res_main_call1_v4 V0 (ix3 n k 0)
      = BitVec.ofNat 32 (order (fun e => res_main_v19 V0 (ix2 n e)) ⟨k.val, by omega⟩).val :=
    wrap_at (res_main_v34 V0) n k _ ((v34_at V0 n k).trans (topK_indices _ n k))
  rw [v39_eq]
  refine (mixed_at _ _ _ n c fun k => inRange_at _ n k c _ (hi k)).trans ?_
  unfold best
  refine Finset.sum_congr rfl fun k _ => congrArg₂ (· * ·) ?_ (topK_values _ n k)
  exact (gather_at _ _ n k c _ (hi k)).trans (experts_zero _ _ _ _ _ _ _ hr.b1 hr.b2 hr.b3 n _ c)

/-- The gate's weights on one row. -/
def gate (n : Fin 16384) : Fin 64 → EReal :=
  soft (logits (fun d => V0 (Proc.devRef .tc main_arg0) (ix2 n d))
    (fun d h => V0 (Proc.devRef .tc main_arg1) (ix2 d h)) (fun h e => V0 (Proc.devRef .tc main_arg3) (ix2 h e)))

theorem gate_at (hr : Ready V0) (n : Fin 16384) : (fun e => res_main_v19 V0 (ix2 n e)) = gate V0 n := by
  funext e
  refine (v19_at V0 n e).trans ?_
  unfold gate
  exact congrArg (fun l => soft l e) (funext fun k => v8_at V0 (fun _ => hr.c1 _) (fun _ => hr.c2 _) n k)

theorem reference_at (hr : Ready V0) (n : Fin 16384) (c : Fin 32) :
    Host.divf (res_main_v46 V0) (broadcastInDim S16384x32 ![0, 1] bcast_S16384x1_S16384x32_0_1 (broadcastInDim S16384x1 ![0] bcast_S16384_S16384x1_0 (Host.reduceAdd (res_main_v46 V0) (constant S_ .f32 0x00000000#32) reducesTo_S16384x32_S16384_d1 h_S_))) (ix2 n c)
      = soft (fun c => best (gate V0 n) fun e =>
          expert (fun d => V0 (Proc.devRef .tc main_arg0) (ix2 n d)) (V0 (Proc.devRef .tc main_arg5))
            (V0 (Proc.devRef .tc main_arg7)) (V0 (Proc.devRef .tc main_arg9)) e c) c := by
  rw [v46_eq]
  refine (classes_at _ n c).trans (congrArg (fun u => soft u c) (funext fun c => ?_))
  rw [mix_at V0 hr, gate_at V0 hr]
end Moe
end
end
-- ==== Proof.Equation.lean ====
module
public import proofs.«01_k».proof.Proof.KernelValue
public import proofs.«01_k».proof.Proof.RefValue
@[expose] public section
set_option maxRecDepth 16384
noncomputable section
namespace Moe
open Idealize.ShloMosaic Cert.KernelIdeal Cert.KernelIdeal.Gen

/-! # The equation between the two programs -/

/-- Column `32 e + c` of the first kernel's array against a row: expert `e`'s score for class `c`. -/
theorem column_eq (x : Fin 768 → EReal) (w1 : FVec Ideal S64x768x32 .f32) (w2 : FVec Ideal S64x32x64 .f32)
    (w3 : FVec Ideal S64x64x32 .f32) (hx : ∀ d, Fin' (x d)) (h1 : ∀ i, Fin' (w1 i)) (h2 : ∀ i, Fin' (w2 i))
    (h3 : ∀ i, Fin' (w3 i)) (e : Fin 64) (c : Fin 32) :
    ∑ d, x d * wcat w1 w2 w3 (ix2 d ⟨32 * e.val + c.val, by omega⟩) = expert x w1 w2 w3 e c := by
  have q : (⟨(32 * e.val + c.val) / 32, by omega⟩ : Fin 64) = e := Fin.ext (by show (32 * e.val + c.val) / 32 = e.val; omega)
  have r : (⟨(32 * e.val + c.val) % 32, by omega⟩ : Fin 32) = c := Fin.ext (by show (32 * e.val + c.val) % 32 = c.val; omega)
  have hw (d : Fin 768) : wcat w1 w2 w3 (ix2 d ⟨32 * e.val + c.val, by omega⟩)
      = ∑ h, (w1 (ix3 e d h) : EReal) * ∑ f, (w2 (ix3 e h f) : EReal) * w3 (ix3 e f c) := by
    change (∑ h, (w1 (ix3 ⟨(32 * e.val + c.val) / 32, by omega⟩ d h) : EReal) *
      ∑ f, (w2 (ix3 ⟨(32 * e.val + c.val) / 32, by omega⟩ h f) : EReal) *
        w3 (ix3 ⟨(32 * e.val + c.val) / 32, by omega⟩ f ⟨(32 * e.val + c.val) % 32, by omega⟩)) = _
    rw [q, r]
  simp only [hw]
  exact expert_eq x (fun d h => w1 (ix3 e d h)) (fun h f => w2 (ix3 e h f)) (fun f => w3 (ix3 e f c)) hx
    (fun _ _ => h1 _) (fun _ _ => h2 _) (fun _ => h3 _)

/-- One row: what the kernel computes is the softmax of the eight best experts' weighted scores. -/
theorem scores_eq (x : Fin 768 → EReal) (g1 : FVec Ideal S768x64 .f32) (g2 : FVec Ideal S64x64 .f32)
    (w1 : FVec Ideal S64x768x32 .f32) (w2 : FVec Ideal S64x32x64 .f32) (w3 : FVec Ideal S64x64x32 .f32)
    (hx : ∀ d, Fin' (x d)) (h1 : ∀ i, Fin' (w1 i))
    (h2 : ∀ i, Fin' (w2 i)) (h3 : ∀ i, Fin' (w3 i))
    (hs : StrictRow (soft (logits x (fun d h => g1 (ix2 d h)) (fun h e => g2 (ix2 h e))))) (c : Fin 32) :
    scores x g1 g2 (wcat w1 w2 w3) spread gatherT c
      = soft (fun c => best (soft (logits x (fun d h => g1 (ix2 d h)) (fun h e => g2 (ix2 h e))))
          fun e => expert x w1 w2 w3 e c) c := by
  unfold scores
  generalize hw : soft (logits x (fun d h => g1 (ix2 d h)) (fun h e => g2 (ix2 h e))) = w at hs ⊢
  have hb (e : Fin 64) : w e ≠ ⊥ := by
    rw [← hw]
    exact soft_ne_bot _ _ _ (hw ▸ hs 0 (by decide)) e
  refine congrArg (fun u => soft u c) (funext fun c => ?_)
  refine (combine (fun j => ∑ d, x d * wcat w1 w2 w3 (ix2 d j)) (kept w) (fun e j => spread (ix2 e j))
    (fun j c => gatherT (ix2 j c)) spread_at gatherT_at c).trans ?_
  simp only [column_eq x w1 w2 w3 hx h1 h2 h3]
  exact sum_kept w (order w) (order_bijective w) (order_mono w) hs hb fun e => expert x w1 w2 w3 e c
end Moe
end
end
-- ==== Proof.Result.lean ====
module
public import proofs.«01_k».proof.Proof.Equation
@[expose] public section
set_option maxRecDepth 16384
noncomputable section
namespace Moe
open Idealize.ShloMosaic Cert.ReferenceIdeal Cert.ReferenceIdeal.Gen Cert.ReferenceIdeal.Value

/-! # The result array of both programs -/

/-- The result array, of the six arrays it depends on. -/
def result (x : FVec Ideal S16384x768 .f32) (g1 : FVec Ideal S768x64 .f32) (g2 : FVec Ideal S64x64 .f32)
    (w1 : FVec Ideal S64x768x32 .f32) (w2 : FVec Ideal S64x32x64 .f32) (w3 : FVec Ideal S64x64x32 .f32) :
    FVec Ideal S16384x32 .f32 :=
  fun i => scores (fun d => x (ix2 (i 0) d)) g1 g2 (wcat w1 w2 w3) spread gatherT (i 1)

theorem result_congr {x x' : FVec Ideal S16384x768 .f32} {g1 g1' : FVec Ideal S768x64 .f32} {g2 g2' : FVec Ideal S64x64 .f32}
    {w1 w1' : FVec Ideal S64x768x32 .f32} {w2 w2' : FVec Ideal S64x32x64 .f32} {w3 w3' : FVec Ideal S64x64x32 .f32}
    (e0 : x = x') (e1 : g1 = g1') (e3 : g2 = g2') (e5 : w1 = w1') (e7 : w2 = w2') (e9 : w3 = w3') :
    result x g1 g2 w1 w2 w3 = result x' g1' g2' w1' w2' w3' := by
  subst e0 e1 e3 e5 e7 e9; rfl

/-- The reference's result. -/
theorem reference_value (V0 : Valuation τ sig (Elt Ideal)) (hr : Ready V0) :
    Host.divf (res_main_v46 V0) (broadcastInDim S16384x32 ![0, 1] bcast_S16384x1_S16384x32_0_1 (broadcastInDim S16384x1 ![0] bcast_S16384_S16384x1_0 (Host.reduceAdd (res_main_v46 V0) (constant S_ .f32 0x00000000#32) reducesTo_S16384x32_S16384_d1 h_S_)))
      = result (V0 (Proc.devRef .tc main_arg0)) (V0 (Proc.devRef .tc main_arg1)) (V0 (Proc.devRef .tc main_arg3))
          (V0 (Proc.devRef .tc main_arg5)) (V0 (Proc.devRef .tc main_arg7)) (V0 (Proc.devRef .tc main_arg9)) := by
  have hs (n : Fin 16384) : StrictRow (gate V0 n) := (gate_at V0 hr n) ▸ hr.strict n
  have hp (n : Fin 16384) (c : Fin 32) := (reference_at V0 hr n c).trans
    (scores_eq (fun d => V0 (Proc.devRef .tc main_arg0) (ix2 n d)) (V0 (Proc.devRef .tc main_arg1))
      (V0 (Proc.devRef .tc main_arg3)) (V0 (Proc.devRef .tc main_arg5)) (V0 (Proc.devRef .tc main_arg7))
      (V0 (Proc.devRef .tc main_arg9)) (fun _ => hr.x _) hr.w1 hr.w2 hr.w3 (hs n) c).symm
  funext i
  have hi : i = ix2 (i 0) (i 1) := by funext a; fin_cases a <;> rfl
  exact (congrArg _ hi).trans (hp (i 0) (i 1))

/-- The precondition's comparisons, of the eleven arrays. -/
abbrev fnAt (a0 : FVec Ideal S16384x768 .f32) (a1 : FVec Ideal S768x64 .f32) (a2 : FVec Ideal S64 .f32) (a3 : FVec Ideal S64x64 .f32) (a4 : FVec Ideal S64 .f32) (a5 : FVec Ideal S64x768x32 .f32) (a6 : FVec Ideal S64x32 .f32) (a7 : FVec Ideal S64x32x64 .f32) (a8 : FVec Ideal S64x64 .f32) (a9 : FVec Ideal S64x64x32 .f32) (a10 : FVec Ideal S64x32 .f32) :=
  letI := admissible_facts
  Cert.Pre_admissible.fn (F := Ideal) a0 a1 a2 a3 a4 a5 a6 a7 a8 a9 a10

/-- The precondition decoded, for a reference run whose arguments are the arrays it holds of. -/
theorem ready_of (V0 : Valuation τ sig (Elt Ideal)) (a0 : FVec Ideal S16384x768 .f32) (a1 : FVec Ideal S768x64 .f32) (a2 : FVec Ideal S64 .f32) (a3 : FVec Ideal S64x64 .f32) (a4 : FVec Ideal S64 .f32) (a5 : FVec Ideal S64x768x32 .f32) (a6 : FVec Ideal S64x32 .f32) (a7 : FVec Ideal S64x32x64 .f32) (a8 : FVec Ideal S64x64 .f32) (a9 : FVec Ideal S64x64x32 .f32) (a10 : FVec Ideal S64x32 .f32)
    (e0 : V0 (Proc.devRef .tc main_arg0) = a0)
    (e1 : V0 (Proc.devRef .tc main_arg1) = a1)
    (e2 : V0 (Proc.devRef .tc main_arg2) = a2)
    (e3 : V0 (Proc.devRef .tc main_arg3) = a3)
    (e4 : V0 (Proc.devRef .tc main_arg4) = a4)
    (e5 : V0 (Proc.devRef .tc main_arg5) = a5)
    (e6 : V0 (Proc.devRef .tc main_arg6) = a6)
    (e7 : V0 (Proc.devRef .tc main_arg7) = a7)
    (e8 : V0 (Proc.devRef .tc main_arg8) = a8)
    (e9 : V0 (Proc.devRef .tc main_arg9) = a9)
    (e10 : V0 (Proc.devRef .tc main_arg10) = a10)
    (h : (fnAt a0 a1 a2 a3 a4 a5 a6 a7 a8 a9 a10).1 = (fun _ => 1#1)
      ∧ (fnAt a0 a1 a2 a3 a4 a5 a6 a7 a8 a9 a10).2.1 = (fun _ => 1#1)
      ∧ (fnAt a0 a1 a2 a3 a4 a5 a6 a7 a8 a9 a10).2.2.1 = (fun _ => 1#1)
      ∧ (fnAt a0 a1 a2 a3 a4 a5 a6 a7 a8 a9 a10).2.2.2.1 = (fun _ => 1#1)
      ∧ (fnAt a0 a1 a2 a3 a4 a5 a6 a7 a8 a9 a10).2.2.2.2.1 = (fun _ => 1#1)
      ∧ (fnAt a0 a1 a2 a3 a4 a5 a6 a7 a8 a9 a10).2.2.2.2.2.1 = (fun _ => 1#1)
      ∧ (fnAt a0 a1 a2 a3 a4 a5 a6 a7 a8 a9 a10).2.2.2.2.2.2.1 = (fun _ => 1#1)
      ∧ (fnAt a0 a1 a2 a3 a4 a5 a6 a7 a8 a9 a10).2.2.2.2.2.2.2.1 = (fun _ => 1#1)
      ∧ (fnAt a0 a1 a2 a3 a4 a5 a6 a7 a8 a9 a10).2.2.2.2.2.2.2.2.1 = (fun _ => 1#1)
      ∧ (fnAt a0 a1 a2 a3 a4 a5 a6 a7 a8 a9 a10).2.2.2.2.2.2.2.2.2.1 = (fun _ => 1#1)
      ∧ (fnAt a0 a1 a2 a3 a4 a5 a6 a7 a8 a9 a10).2.2.2.2.2.2.2.2.2.2 = (fun _ => 1#1)) : Ready V0 := by
  subst e0 e1 e2 e3 e4 e5 e6 e7 e8 e9 e10
  exact ready V0 h

/-- Every run of the reference ends with its arguments as launched and no counter raised. -/
theorem ideal_ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => (h c).2, sem_eq_zero_of_no_sems (by decide) r.2⟩) (Value.run m g)
end Moe
end
end
-- ==== Proof.lean ====
/- The five claims of the certificate, put together: the frames of the kernel, of the kernel over the extended reals
   and of the reference, and the equation between the last two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Result
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The two programs' results agree. -/
theorem algebraic : algebraic_KernelIdeal_ReferenceIdeal_pre_admissible (hKernelIdeal := Cert.KernelIdeal.Gen.facts)
    (hReferenceIdeal := Cert.ReferenceIdeal.Gen.facts) (hPre_admissible := Moe.admissible_facts) := by
  intro m g m' g' hpre hagree
  refine ⟨fun c => Cert.KernelIdeal.Gen.W3 m g c (Proc.devRef .tc Cert.KernelIdeal.main_v1), Moe.kernel_run m g,
    (θ_run (Cert.ReferenceIdeal.defs (F := Ideal)) _ _).mono (fun r h c => ⟨(h c).1.trans ?_, (h c).2⟩)
      (Cert.ReferenceIdeal.Value.run (F := Ideal) m' g')⟩
  obtain ⟨e0, e1, e2, e3, e4, e5, e6, e7, e8, e9, e10⟩ := hagree c
  have hr : Moe.Ready (StableHlo.launchContents m' c) :=
    Moe.ready_of _ _ _ _ _ _ _ _ _ _ _ _ e0 e1 e2 e3 e4 e5 e6 e7 e8 e9 e10 (hpre c)
  refine (Moe.reference_value _ hr).trans (Eq.trans ?_ (Moe.kernel_value m g c ?_ ?_ ?_ ?_).symm)
  · exact Moe.result_congr e0 e1 e3 e5 e7 e9
  · exact fun i => e0 ▸ hr.x i
  · exact fun i => e1 ▸ hr.g1 i
  · exact fun i => e7 ▸ hr.w2 i
  · exact fun i => e9 ▸ hr.w3 i

/-- The reference ends with its arguments as launched and no counter raised. -/
theorem reference_frame : quiescent_ReferenceIdeal (hReferenceIdeal := Cert.ReferenceIdeal.Gen.facts) :=
  fun m g _ => Moe.ideal_ref_frame m g

/-- Everything claimed, after the facts that each printed program states of its shapes. -/
theorem claim : Cert.Claim :=
  ⟨Cert.Kernel.Gen.facts, Cert.KernelIdeal.Gen.facts, Cert.ReferenceIdeal.Gen.facts, Moe.admissible_facts,
    fun m g _ => Cert.Kernel.Gen.frame m g, fun m g _ => Cert.KernelIdeal.Gen.frame m g,
    fun m g _ => Cert.KernelIdeal.Gen.frame m g, reference_frame, fun m g _ => Moe.ideal_ref_frame m g, trivial, algebraic⟩

end Cert.Proof

end
